-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S32x128x128 : Shape := ⟨3, ![32, 128, 128]⟩
abbrev S32 : Shape := ⟨1, ![32]⟩
abbrev S8 : Shape := ⟨1, ![8]⟩
abbrev S_ : Shape := ⟨0, ![]⟩
abbrev S512x2048 : Shape := ⟨2, ![512, 2048]⟩
abbrev S1x128x128 : Shape := ⟨3, ![1, 128, 128]⟩
abbrev S128x128 : Shape := ⟨2, ![128, 128]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S32x128x128, .fp8e4m3⟩
  | .local _ .vmem, ⟨3, _⟩ => ⟨S32x128x128, .fp8e4m3⟩
  | .local _ .vmem, ⟨4, _⟩ => ⟨S4096x2048, .f32⟩
  | .local _ .smem, ⟨0, _⟩ => ⟨S1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch4 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v446 : Index := Scalar.indexCast v2
  let c0_316 : Index := 0#32
  let c0_317 : Index := 0#32
  ![v446.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_332 : BitVec 32 := 0#32
  let c0_i32_333 : BitVec 32 := 0#32
  ![v2.toNat, 0, 0]
def k0_off3 (d0 : Dev nD) (c1_i32_321 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v453 : BitVec 32 := Scalar.addi v2 c1_i32_321
  let c32_i32_322 : BitVec 32 := 32#32
  let c0_i32_323 : BitVec 32 := 0#32
  let v454 : BitVec 1 := Scalar.cmpi .eq c32_i32_322 c0_i32_323
  let c1_i32_324 : BitVec 32 := 1#32
  let v455 : BitVec 32 := Scalar.select v454 c1_i32_324 c32_i32_322
  let v456 : BitVec 32 := Scalar.remsi v453 v455
  let c0_i32_326 : BitVec 32 := 0#32
  let v458 : BitVec 1 := Scalar.cmpi .slt v456 c0_i32_326
  let c0_i32_327 : BitVec 32 := 0#32
  let v459 : BitVec 1 := Scalar.cmpi .slt v455 c0_i32_327
  let v460 : BitVec 1 := Scalar.xori v458 v459
  let c0_i32_325 : BitVec 32 := 0#32
  let v457 : BitVec 1 := Scalar.cmpi .ne v456 c0_i32_325
  let v461 : BitVec 1 := Scalar.andi v460 v457
  let v462 : BitVec 32 := Scalar.addi v456 v455
  let v463 : BitVec 32 := Scalar.select v461 v462 v456
  let c0_i32_334 : BitVec 32 := 0#32
  let c0_i32_335 : BitVec 32 := 0#32
  ![v463.toNat, 0, 0]
def k0_dev32 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_321 : BitVec 32 := 1#32
  let v453 : BitVec 32 := Scalar.addi v2 c1_i32_321
  let c32_i32_322 : BitVec 32 := 32#32
  let c0_i32_323 : BitVec 32 := 0#32
  let v454 : BitVec 1 := Scalar.cmpi .eq c32_i32_322 c0_i32_323
  let c1_i32_324 : BitVec 32 := 1#32
  let v455 : BitVec 32 := Scalar.select v454 c1_i32_324 c32_i32_322
  let v456 : BitVec 32 := Scalar.remsi v453 v455
  let c0_i32_326 : BitVec 32 := 0#32
  let v458 : BitVec 1 := Scalar.cmpi .slt v456 c0_i32_326
  let c0_i32_327 : BitVec 32 := 0#32
  let v459 : BitVec 1 := Scalar.cmpi .slt v455 c0_i32_327
  let v460 : BitVec 1 := Scalar.xori v458 v459
  let c0_i32_325 : BitVec 32 := 0#32
  let v457 : BitVec 1 := Scalar.cmpi .ne v456 c0_i32_325
  let v461 : BitVec 1 := Scalar.andi v460 v457
  let v462 : BitVec 32 := Scalar.addi v456 v455
  let v463 : BitVec 32 := Scalar.select v461 v462 v456
  let c1_i32_330 : BitVec 32 := 1#32
  let v464 : BitVec 32 := Scalar.muli v463 c1_i32_330
  let v465 : BitVec 32 := Scalar.addi c0_i32_331 v464
  v465.toNat
def k0_dev33 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_336 : BitVec 32 := 2#32
  let v474 : BitVec 32 := Scalar.addi v2 c2_i32_336
  let c32_i32_337 : BitVec 32 := 32#32
  let c0_i32_338 : BitVec 32 := 0#32
  let v475 : BitVec 1 := Scalar.cmpi .eq c32_i32_337 c0_i32_338
  let c1_i32_339 : BitVec 32 := 1#32
  let v476 : BitVec 32 := Scalar.select v475 c1_i32_339 c32_i32_337
  let v477 : BitVec 32 := Scalar.remsi v474 v476
  let c0_i32_341 : BitVec 32 := 0#32
  let v479 : BitVec 1 := Scalar.cmpi .slt v477 c0_i32_341
  let c0_i32_342 : BitVec 32 := 0#32
  let v480 : BitVec 1 := Scalar.cmpi .slt v476 c0_i32_342
  let v481 : BitVec 1 := Scalar.xori v479 v480
  let c0_i32_340 : BitVec 32 := 0#32
  let v478 : BitVec 1 := Scalar.cmpi .ne v477 c0_i32_340
  let v482 : BitVec 1 := Scalar.andi v481 v478
  let v483 : BitVec 32 := Scalar.addi v477 v476
  let v484 : BitVec 32 := Scalar.select v482 v483 v477
  let c1_i32_345 : BitVec 32 := 1#32
  let v485 : BitVec 32 := Scalar.muli v484 c1_i32_345
  let v486 : BitVec 32 := Scalar.addi c0_i32_346 v485
  v486.toNat
def k0_dev34 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_351 : BitVec 32 := 3#32
  let v495 : BitVec 32 := Scalar.addi v2 c3_i32_351
  let c32_i32_352 : BitVec 32 := 32#32
  let c0_i32_353 : BitVec 32 := 0#32
  let v496 : BitVec 1 := Scalar.cmpi .eq c32_i32_352 c0_i32_353
  let c1_i32_354 : BitVec 32 := 1#32
  let v497 : BitVec 32 := Scalar.select v496 c1_i32_354 c32_i32_352
  let v498 : BitVec 32 := Scalar.remsi v495 v497
  let c0_i32_356 : BitVec 32 := 0#32
  let v500 : BitVec 1 := Scalar.cmpi .slt v498 c0_i32_356
  let c0_i32_357 : BitVec 32 := 0#32
  let v501 : BitVec 1 := Scalar.cmpi .slt v497 c0_i32_357
  let v502 : BitVec 1 := Scalar.xori v500 v501
  let c0_i32_355 : BitVec 32 := 0#32
  let v499 : BitVec 1 := Scalar.cmpi .ne v498 c0_i32_355
  let v503 : BitVec 1 := Scalar.andi v502 v499
  let v504 : BitVec 32 := Scalar.addi v498 v497
  let v505 : BitVec 32 := Scalar.select v503 v504 v498
  let c1_i32_360 : BitVec 32 := 1#32
  let v506 : BitVec 32 := Scalar.muli v505 c1_i32_360
  let v507 : BitVec 32 := Scalar.addi c0_i32_361 v506
  v507.toNat
def k0_dev35 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_366 : BitVec 32 := 4#32
  let v516 : BitVec 32 := Scalar.addi v2 c4_i32_366
  let c32_i32_367 : BitVec 32 := 32#32
  let c0_i32_368 : BitVec 32 := 0#32
  let v517 : BitVec 1 := Scalar.cmpi .eq c32_i32_367 c0_i32_368
  let c1_i32_369 : BitVec 32 := 1#32
  let v518 : BitVec 32 := Scalar.select v517 c1_i32_369 c32_i32_367
  let v519 : BitVec 32 := Scalar.remsi v516 v518
  let c0_i32_371 : BitVec 32 := 0#32
  let v521 : BitVec 1 := Scalar.cmpi .slt v519 c0_i32_371
  let c0_i32_372 : BitVec 32 := 0#32
  let v522 : BitVec 1 := Scalar.cmpi .slt v518 c0_i32_372
  let v523 : BitVec 1 := Scalar.xori v521 v522
  let c0_i32_370 : BitVec 32 := 0#32
  let v520 : BitVec 1 := Scalar.cmpi .ne v519 c0_i32_370
  let v524 : BitVec 1 := Scalar.andi v523 v520
  let v525 : BitVec 32 := Scalar.addi v519 v518
  let v526 : BitVec 32 := Scalar.select v524 v525 v519
  let c1_i32_375 : BitVec 32 := 1#32
  let v527 : BitVec 32 := Scalar.muli v526 c1_i32_375
  let v528 : BitVec 32 := Scalar.addi c0_i32_376 v527
  v528.toNat
def k0_dev36 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_381 : BitVec 32 := 5#32
  let v537 : BitVec 32 := Scalar.addi v2 c5_i32_381
  let c32_i32_382 : BitVec 32 := 32#32
  let c0_i32_383 : BitVec 32 := 0#32
  let v538 : BitVec 1 := Scalar.cmpi .eq c32_i32_382 c0_i32_383
  let c1_i32_384 : BitVec 32 := 1#32
  let v539 : BitVec 32 := Scalar.select v538 c1_i32_384 c32_i32_382
  let v540 : BitVec 32 := Scalar.remsi v537 v539
  let c0_i32_386 : BitVec 32 := 0#32
  let v542 : BitVec 1 := Scalar.cmpi .slt v540 c0_i32_386
  let c0_i32_387 : BitVec 32 := 0#32
  let v543 : BitVec 1 := Scalar.cmpi .slt v539 c0_i32_387
  let v544 : BitVec 1 := Scalar.xori v542 v543
  let c0_i32_385 : BitVec 32 := 0#32
  let v541 : BitVec 1 := Scalar.cmpi .ne v540 c0_i32_385
  let v545 : BitVec 1 := Scalar.andi v544 v541
  let v546 : BitVec 32 := Scalar.addi v540 v539
  let v547 : BitVec 32 := Scalar.select v545 v546 v540
  let c1_i32_390 : BitVec 32 := 1#32
  let v548 : BitVec 32 := Scalar.muli v547 c1_i32_390
  let v549 : BitVec 32 := Scalar.addi c0_i32_391 v548
  v549.toNat
def k0_dev37 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_396 : BitVec 32 := 6#32
  let v558 : BitVec 32 := Scalar.addi v2 c6_i32_396
  let c32_i32_397 : BitVec 32 := 32#32
  let c0_i32_398 : BitVec 32 := 0#32
  let v559 : BitVec 1 := Scalar.cmpi .eq c32_i32_397 c0_i32_398
  let c1_i32_399 : BitVec 32 := 1#32
  let v560 : BitVec 32 := Scalar.select v559 c1_i32_399 c32_i32_397
  let v561 : BitVec 32 := Scalar.remsi v558 v560
  let c0_i32_401 : BitVec 32 := 0#32
  let v563 : BitVec 1 := Scalar.cmpi .slt v561 c0_i32_401
  let c0_i32_402 : BitVec 32 := 0#32
  let v564 : BitVec 1 := Scalar.cmpi .slt v560 c0_i32_402
  let v565 : BitVec 1 := Scalar.xori v563 v564
  let c0_i32_400 : BitVec 32 := 0#32
  let v562 : BitVec 1 := Scalar.cmpi .ne v561 c0_i32_400
  let v566 : BitVec 1 := Scalar.andi v565 v562
  let v567 : BitVec 32 := Scalar.addi v561 v560
  let v568 : BitVec 32 := Scalar.select v566 v567 v561
  let c1_i32_405 : BitVec 32 := 1#32
  let v569 : BitVec 32 := Scalar.muli v568 c1_i32_405
  let v570 : BitVec 32 := Scalar.addi c0_i32_406 v569
  v570.toNat
def k0_dev38 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_411 : BitVec 32 := 7#32
  let v579 : BitVec 32 := Scalar.addi v2 c7_i32_411
  let c32_i32_412 : BitVec 32 := 32#32
  let c0_i32_413 : BitVec 32 := 0#32
  let v580 : BitVec 1 := Scalar.cmpi .eq c32_i32_412 c0_i32_413
  let c1_i32_414 : BitVec 32 := 1#32
  let v581 : BitVec 32 := Scalar.select v580 c1_i32_414 c32_i32_412
  let v582 : BitVec 32 := Scalar.remsi v579 v581
  let c0_i32_416 : BitVec 32 := 0#32
  let v584 : BitVec 1 := Scalar.cmpi .slt v582 c0_i32_416
  let c0_i32_417 : BitVec 32 := 0#32
  let v585 : BitVec 1 := Scalar.cmpi .slt v581 c0_i32_417
  let v586 : BitVec 1 := Scalar.xori v584 v585
  let c0_i32_415 : BitVec 32 := 0#32
  let v583 : BitVec 1 := Scalar.cmpi .ne v582 c0_i32_415
  let v587 : BitVec 1 := Scalar.andi v586 v583
  let v588 : BitVec 32 := Scalar.addi v582 v581
  let v589 : BitVec 32 := Scalar.select v587 v588 v582
  let c1_i32_420 : BitVec 32 := 1#32
  let v590 : BitVec 32 := Scalar.muli v589 c1_i32_420
  let v591 : BitVec 32 := Scalar.addi c0_i32_421 v590
  v591.toNat
def k0_dev39 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_426 : BitVec 32 := 8#32
  let v600 : BitVec 32 := Scalar.addi v2 c8_i32_426
  let c32_i32_427 : BitVec 32 := 32#32
  let c0_i32_428 : BitVec 32 := 0#32
  let v601 : BitVec 1 := Scalar.cmpi .eq c32_i32_427 c0_i32_428
  let c1_i32_429 : BitVec 32 := 1#32
  let v602 : BitVec 32 := Scalar.select v601 c1_i32_429 c32_i32_427
  let v603 : BitVec 32 := Scalar.remsi v600 v602
  let c0_i32_431 : BitVec 32 := 0#32
  let v605 : BitVec 1 := Scalar.cmpi .slt v603 c0_i32_431
  let c0_i32_432 : BitVec 32 := 0#32
  let v606 : BitVec 1 := Scalar.cmpi .slt v602 c0_i32_432
  let v607 : BitVec 1 := Scalar.xori v605 v606
  let c0_i32_430 : BitVec 32 := 0#32
  let v604 : BitVec 1 := Scalar.cmpi .ne v603 c0_i32_430
  let v608 : BitVec 1 := Scalar.andi v607 v604
  let v609 : BitVec 32 := Scalar.addi v603 v602
  let v610 : BitVec 32 := Scalar.select v608 v609 v603
  let c1_i32_435 : BitVec 32 := 1#32
  let v611 : BitVec 32 := Scalar.muli v610 c1_i32_435
  let v612 : BitVec 32 := Scalar.addi c0_i32_436 v611
  v612.toNat
def k0_dev40 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_441 : BitVec 32 := 9#32
  let v621 : BitVec 32 := Scalar.addi v2 c9_i32_441
  let c32_i32_442 : BitVec 32 := 32#32
  let c0_i32_443 : BitVec 32 := 0#32
  let v622 : BitVec 1 := Scalar.cmpi .eq c32_i32_442 c0_i32_443
  let c1_i32_444 : BitVec 32 := 1#32
  let v623 : BitVec 32 := Scalar.select v622 c1_i32_444 c32_i32_442
  let v624 : BitVec 32 := Scalar.remsi v621 v623
  let c0_i32_446 : BitVec 32 := 0#32
  let v626 : BitVec 1 := Scalar.cmpi .slt v624 c0_i32_446
  let c0_i32_447 : BitVec 32 := 0#32
  let v627 : BitVec 1 := Scalar.cmpi .slt v623 c0_i32_447
  let v628 : BitVec 1 := Scalar.xori v626 v627
  let c0_i32_445 : BitVec 32 := 0#32
  let v625 : BitVec 1 := Scalar.cmpi .ne v624 c0_i32_445
  let v629 : BitVec 1 := Scalar.andi v628 v625
  let v630 : BitVec 32 := Scalar.addi v624 v623
  let v631 : BitVec 32 := Scalar.select v629 v630 v624
  let c1_i32_450 : BitVec 32 := 1#32
  let v632 : BitVec 32 := Scalar.muli v631 c1_i32_450
  let v633 : BitVec 32 := Scalar.addi c0_i32_451 v632
  v633.toNat
def k0_dev41 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_456 : BitVec 32 := 10#32
  let v642 : BitVec 32 := Scalar.addi v2 c10_i32_456
  let c32_i32_457 : BitVec 32 := 32#32
  let c0_i32_458 : BitVec 32 := 0#32
  let v643 : BitVec 1 := Scalar.cmpi .eq c32_i32_457 c0_i32_458
  let c1_i32_459 : BitVec 32 := 1#32
  let v644 : BitVec 32 := Scalar.select v643 c1_i32_459 c32_i32_457
  let v645 : BitVec 32 := Scalar.remsi v642 v644
  let c0_i32_461 : BitVec 32 := 0#32
  let v647 : BitVec 1 := Scalar.cmpi .slt v645 c0_i32_461
  let c0_i32_462 : BitVec 32 := 0#32
  let v648 : BitVec 1 := Scalar.cmpi .slt v644 c0_i32_462
  let v649 : BitVec 1 := Scalar.xori v647 v648
  let c0_i32_460 : BitVec 32 := 0#32
  let v646 : BitVec 1 := Scalar.cmpi .ne v645 c0_i32_460
  let v650 : BitVec 1 := Scalar.andi v649 v646
  let v651 : BitVec 32 := Scalar.addi v645 v644
  let v652 : BitVec 32 := Scalar.select v650 v651 v645
  let c1_i32_465 : BitVec 32 := 1#32
  let v653 : BitVec 32 := Scalar.muli v652 c1_i32_465
  let v654 : BitVec 32 := Scalar.addi c0_i32_466 v653
  v654.toNat
def k0_dev42 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_471 : BitVec 32 := 11#32
  let v663 : BitVec 32 := Scalar.addi v2 c11_i32_471
  let c32_i32_472 : BitVec 32 := 32#32
  let c0_i32_473 : BitVec 32 := 0#32
  let v664 : BitVec 1 := Scalar.cmpi .eq c32_i32_472 c0_i32_473
  let c1_i32_474 : BitVec 32 := 1#32
  let v665 : BitVec 32 := Scalar.select v664 c1_i32_474 c32_i32_472
  let v666 : BitVec 32 := Scalar.remsi v663 v665
  let c0_i32_476 : BitVec 32 := 0#32
  let v668 : BitVec 1 := Scalar.cmpi .slt v666 c0_i32_476
  let c0_i32_477 : BitVec 32 := 0#32
  let v669 : BitVec 1 := Scalar.cmpi .slt v665 c0_i32_477
  let v670 : BitVec 1 := Scalar.xori v668 v669
  let c0_i32_475 : BitVec 32 := 0#32
  let v667 : BitVec 1 := Scalar.cmpi .ne v666 c0_i32_475
  let v671 : BitVec 1 := Scalar.andi v670 v667
  let v672 : BitVec 32 := Scalar.addi v666 v665
  let v673 : BitVec 32 := Scalar.select v671 v672 v666
  let c1_i32_480 : BitVec 32 := 1#32
  let v674 : BitVec 32 := Scalar.muli v673 c1_i32_480
  let v675 : BitVec 32 := Scalar.addi c0_i32_481 v674
  v675.toNat
def k0_dev43 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_486 : BitVec 32 := 12#32
  let v684 : BitVec 32 := Scalar.addi v2 c12_i32_486
  let c32_i32_487 : BitVec 32 := 32#32
  let c0_i32_488 : BitVec 32 := 0#32
  let v685 : BitVec 1 := Scalar.cmpi .eq c32_i32_487 c0_i32_488
  let c1_i32_489 : BitVec 32 := 1#32
  let v686 : BitVec 32 := Scalar.select v685 c1_i32_489 c32_i32_487
  let v687 : BitVec 32 := Scalar.remsi v684 v686
  let c0_i32_491 : BitVec 32 := 0#32
  let v689 : BitVec 1 := Scalar.cmpi .slt v687 c0_i32_491
  let c0_i32_492 : BitVec 32 := 0#32
  let v690 : BitVec 1 := Scalar.cmpi .slt v686 c0_i32_492
  let v691 : BitVec 1 := Scalar.xori v689 v690
  let c0_i32_490 : BitVec 32 := 0#32
  let v688 : BitVec 1 := Scalar.cmpi .ne v687 c0_i32_490
  let v692 : BitVec 1 := Scalar.andi v691 v688
  let v693 : BitVec 32 := Scalar.addi v687 v686
  let v694 : BitVec 32 := Scalar.select v692 v693 v687
  let c1_i32_495 : BitVec 32 := 1#32
  let v695 : BitVec 32 := Scalar.muli v694 c1_i32_495
  let v696 : BitVec 32 := Scalar.addi c0_i32_496 v695
  v696.toNat
def k0_dev44 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_501 : BitVec 32 := 13#32
  let v705 : BitVec 32 := Scalar.addi v2 c13_i32_501
  let c32_i32_502 : BitVec 32 := 32#32
  let c0_i32_503 : BitVec 32 := 0#32
  let v706 : BitVec 1 := Scalar.cmpi .eq c32_i32_502 c0_i32_503
  let c1_i32_504 : BitVec 32 := 1#32
  let v707 : BitVec 32 := Scalar.select v706 c1_i32_504 c32_i32_502
  let v708 : BitVec 32 := Scalar.remsi v705 v707
  let c0_i32_506 : BitVec 32 := 0#32
  let v710 : BitVec 1 := Scalar.cmpi .slt v708 c0_i32_506
  let c0_i32_507 : BitVec 32 := 0#32
  let v711 : BitVec 1 := Scalar.cmpi .slt v707 c0_i32_507
  let v712 : BitVec 1 := Scalar.xori v710 v711
  let c0_i32_505 : BitVec 32 := 0#32
  let v709 : BitVec 1 := Scalar.cmpi .ne v708 c0_i32_505
  let v713 : BitVec 1 := Scalar.andi v712 v709
  let v714 : BitVec 32 := Scalar.addi v708 v707
  let v715 : BitVec 32 := Scalar.select v713 v714 v708
  let c1_i32_510 : BitVec 32 := 1#32
  let v716 : BitVec 32 := Scalar.muli v715 c1_i32_510
  let v717 : BitVec 32 := Scalar.addi c0_i32_511 v716
  v717.toNat
def k0_dev45 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_516 : BitVec 32 := 14#32
  let v726 : BitVec 32 := Scalar.addi v2 c14_i32_516
  let c32_i32_517 : BitVec 32 := 32#32
  let c0_i32_518 : BitVec 32 := 0#32
  let v727 : BitVec 1 := Scalar.cmpi .eq c32_i32_517 c0_i32_518
  let c1_i32_519 : BitVec 32 := 1#32
  let v728 : BitVec 32 := Scalar.select v727 c1_i32_519 c32_i32_517
  let v729 : BitVec 32 := Scalar.remsi v726 v728
  let c0_i32_521 : BitVec 32 := 0#32
  let v731 : BitVec 1 := Scalar.cmpi .slt v729 c0_i32_521
  let c0_i32_522 : BitVec 32 := 0#32
  let v732 : BitVec 1 := Scalar.cmpi .slt v728 c0_i32_522
  let v733 : BitVec 1 := Scalar.xori v731 v732
  let c0_i32_520 : BitVec 32 := 0#32
  let v730 : BitVec 1 := Scalar.cmpi .ne v729 c0_i32_520
  let v734 : BitVec 1 := Scalar.andi v733 v730
  let v735 : BitVec 32 := Scalar.addi v729 v728
  let v736 : BitVec 32 := Scalar.select v734 v735 v729
  let c1_i32_525 : BitVec 32 := 1#32
  let v737 : BitVec 32 := Scalar.muli v736 c1_i32_525
  let v738 : BitVec 32 := Scalar.addi c0_i32_526 v737
  v738.toNat
def k0_dev46 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_531 : BitVec 32 := 15#32
  let v747 : BitVec 32 := Scalar.addi v2 c15_i32_531
  let c32_i32_532 : BitVec 32 := 32#32
  let c0_i32_533 : BitVec 32 := 0#32
  let v748 : BitVec 1 := Scalar.cmpi .eq c32_i32_532 c0_i32_533
  let c1_i32_534 : BitVec 32 := 1#32
  let v749 : BitVec 32 := Scalar.select v748 c1_i32_534 c32_i32_532
  let v750 : BitVec 32 := Scalar.remsi v747 v749
  let c0_i32_536 : BitVec 32 := 0#32
  let v752 : BitVec 1 := Scalar.cmpi .slt v750 c0_i32_536
  let c0_i32_537 : BitVec 32 := 0#32
  let v753 : BitVec 1 := Scalar.cmpi .slt v749 c0_i32_537
  let v754 : BitVec 1 := Scalar.xori v752 v753
  let c0_i32_535 : BitVec 32 := 0#32
  let v751 : BitVec 1 := Scalar.cmpi .ne v750 c0_i32_535
  let v755 : BitVec 1 := Scalar.andi v754 v751
  let v756 : BitVec 32 := Scalar.addi v750 v749
  let v757 : BitVec 32 := Scalar.select v755 v756 v750
  let c1_i32_540 : BitVec 32 := 1#32
  let v758 : BitVec 32 := Scalar.muli v757 c1_i32_540
  let v759 : BitVec 32 := Scalar.addi c0_i32_541 v758
  v759.toNat
def k0_dev47 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_546 : BitVec 32 := 16#32
  let v768 : BitVec 32 := Scalar.addi v2 c16_i32_546
  let c32_i32_547 : BitVec 32 := 32#32
  let c0_i32_548 : BitVec 32 := 0#32
  let v769 : BitVec 1 := Scalar.cmpi .eq c32_i32_547 c0_i32_548
  let c1_i32_549 : BitVec 32 := 1#32
  let v770 : BitVec 32 := Scalar.select v769 c1_i32_549 c32_i32_547
  let v771 : BitVec 32 := Scalar.remsi v768 v770
  let c0_i32_551 : BitVec 32 := 0#32
  let v773 : BitVec 1 := Scalar.cmpi .slt v771 c0_i32_551
  let c0_i32_552 : BitVec 32 := 0#32
  let v774 : BitVec 1 := Scalar.cmpi .slt v770 c0_i32_552
  let v775 : BitVec 1 := Scalar.xori v773 v774
  let c0_i32_550 : BitVec 32 := 0#32
  let v772 : BitVec 1 := Scalar.cmpi .ne v771 c0_i32_550
  let v776 : BitVec 1 := Scalar.andi v775 v772
  let v777 : BitVec 32 := Scalar.addi v771 v770
  let v778 : BitVec 32 := Scalar.select v776 v777 v771
  let c1_i32_555 : BitVec 32 := 1#32
  let v779 : BitVec 32 := Scalar.muli v778 c1_i32_555
  let v780 : BitVec 32 := Scalar.addi c0_i32_556 v779
  v780.toNat
def k0_dev48 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_561 : BitVec 32 := 17#32
  let v789 : BitVec 32 := Scalar.addi v2 c17_i32_561
  let c32_i32_562 : BitVec 32 := 32#32
  let c0_i32_563 : BitVec 32 := 0#32
  let v790 : BitVec 1 := Scalar.cmpi .eq c32_i32_562 c0_i32_563
  let c1_i32_564 : BitVec 32 := 1#32
  let v791 : BitVec 32 := Scalar.select v790 c1_i32_564 c32_i32_562
  let v792 : BitVec 32 := Scalar.remsi v789 v791
  let c0_i32_566 : BitVec 32 := 0#32
  let v794 : BitVec 1 := Scalar.cmpi .slt v792 c0_i32_566
  let c0_i32_567 : BitVec 32 := 0#32
  let v795 : BitVec 1 := Scalar.cmpi .slt v791 c0_i32_567
  let v796 : BitVec 1 := Scalar.xori v794 v795
  let c0_i32_565 : BitVec 32 := 0#32
  let v793 : BitVec 1 := Scalar.cmpi .ne v792 c0_i32_565
  let v797 : BitVec 1 := Scalar.andi v796 v793
  let v798 : BitVec 32 := Scalar.addi v792 v791
  let v799 : BitVec 32 := Scalar.select v797 v798 v792
  let c1_i32_570 : BitVec 32 := 1#32
  let v800 : BitVec 32 := Scalar.muli v799 c1_i32_570
  let v801 : BitVec 32 := Scalar.addi c0_i32_571 v800
  v801.toNat
def k0_dev49 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_576 : BitVec 32 := 18#32
  let v810 : BitVec 32 := Scalar.addi v2 c18_i32_576
  let c32_i32_577 : BitVec 32 := 32#32
  let c0_i32_578 : BitVec 32 := 0#32
  let v811 : BitVec 1 := Scalar.cmpi .eq c32_i32_577 c0_i32_578
  let c1_i32_579 : BitVec 32 := 1#32
  let v812 : BitVec 32 := Scalar.select v811 c1_i32_579 c32_i32_577
  let v813 : BitVec 32 := Scalar.remsi v810 v812
  let c0_i32_581 : BitVec 32 := 0#32
  let v815 : BitVec 1 := Scalar.cmpi .slt v813 c0_i32_581
  let c0_i32_582 : BitVec 32 := 0#32
  let v816 : BitVec 1 := Scalar.cmpi .slt v812 c0_i32_582
  let v817 : BitVec 1 := Scalar.xori v815 v816
  let c0_i32_580 : BitVec 32 := 0#32
  let v814 : BitVec 1 := Scalar.cmpi .ne v813 c0_i32_580
  let v818 : BitVec 1 := Scalar.andi v817 v814
  let v819 : BitVec 32 := Scalar.addi v813 v812
  let v820 : BitVec 32 := Scalar.select v818 v819 v813
  let c1_i32_585 : BitVec 32 := 1#32
  let v821 : BitVec 32 := Scalar.muli v820 c1_i32_585
  let v822 : BitVec 32 := Scalar.addi c0_i32_586 v821
  v822.toNat
def k0_dev50 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_591 : BitVec 32 := 19#32
  let v831 : BitVec 32 := Scalar.addi v2 c19_i32_591
  let c32_i32_592 : BitVec 32 := 32#32
  let c0_i32_593 : BitVec 32 := 0#32
  let v832 : BitVec 1 := Scalar.cmpi .eq c32_i32_592 c0_i32_593
  let c1_i32_594 : BitVec 32 := 1#32
  let v833 : BitVec 32 := Scalar.select v832 c1_i32_594 c32_i32_592
  let v834 : BitVec 32 := Scalar.remsi v831 v833
  let c0_i32_596 : BitVec 32 := 0#32
  let v836 : BitVec 1 := Scalar.cmpi .slt v834 c0_i32_596
  let c0_i32_597 : BitVec 32 := 0#32
  let v837 : BitVec 1 := Scalar.cmpi .slt v833 c0_i32_597
  let v838 : BitVec 1 := Scalar.xori v836 v837
  let c0_i32_595 : BitVec 32 := 0#32
  let v835 : BitVec 1 := Scalar.cmpi .ne v834 c0_i32_595
  let v839 : BitVec 1 := Scalar.andi v838 v835
  let v840 : BitVec 32 := Scalar.addi v834 v833
  let v841 : BitVec 32 := Scalar.select v839 v840 v834
  let c1_i32_600 : BitVec 32 := 1#32
  let v842 : BitVec 32 := Scalar.muli v841 c1_i32_600
  let v843 : BitVec 32 := Scalar.addi c0_i32_601 v842
  v843.toNat
def k0_dev51 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_606 : BitVec 32 := 20#32
  let v852 : BitVec 32 := Scalar.addi v2 c20_i32_606
  let c32_i32_607 : BitVec 32 := 32#32
  let c0_i32_608 : BitVec 32 := 0#32
  let v853 : BitVec 1 := Scalar.cmpi .eq c32_i32_607 c0_i32_608
  let c1_i32_609 : BitVec 32 := 1#32
  let v854 : BitVec 32 := Scalar.select v853 c1_i32_609 c32_i32_607
  let v855 : BitVec 32 := Scalar.remsi v852 v854
  let c0_i32_611 : BitVec 32 := 0#32
  let v857 : BitVec 1 := Scalar.cmpi .slt v855 c0_i32_611
  let c0_i32_612 : BitVec 32 := 0#32
  let v858 : BitVec 1 := Scalar.cmpi .slt v854 c0_i32_612
  let v859 : BitVec 1 := Scalar.xori v857 v858
  let c0_i32_610 : BitVec 32 := 0#32
  let v856 : BitVec 1 := Scalar.cmpi .ne v855 c0_i32_610
  let v860 : BitVec 1 := Scalar.andi v859 v856
  let v861 : BitVec 32 := Scalar.addi v855 v854
  let v862 : BitVec 32 := Scalar.select v860 v861 v855
  let c1_i32_615 : BitVec 32 := 1#32
  let v863 : BitVec 32 := Scalar.muli v862 c1_i32_615
  let v864 : BitVec 32 := Scalar.addi c0_i32_616 v863
  v864.toNat
def k0_dev52 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_621 : BitVec 32 := 21#32
  let v873 : BitVec 32 := Scalar.addi v2 c21_i32_621
  let c32_i32_622 : BitVec 32 := 32#32
  let c0_i32_623 : BitVec 32 := 0#32
  let v874 : BitVec 1 := Scalar.cmpi .eq c32_i32_622 c0_i32_623
  let c1_i32_624 : BitVec 32 := 1#32
  let v875 : BitVec 32 := Scalar.select v874 c1_i32_624 c32_i32_622
  let v876 : BitVec 32 := Scalar.remsi v873 v875
  let c0_i32_626 : BitVec 32 := 0#32
  let v878 : BitVec 1 := Scalar.cmpi .slt v876 c0_i32_626
  let c0_i32_627 : BitVec 32 := 0#32
  let v879 : BitVec 1 := Scalar.cmpi .slt v875 c0_i32_627
  let v880 : BitVec 1 := Scalar.xori v878 v879
  let c0_i32_625 : BitVec 32 := 0#32
  let v877 : BitVec 1 := Scalar.cmpi .ne v876 c0_i32_625
  let v881 : BitVec 1 := Scalar.andi v880 v877
  let v882 : BitVec 32 := Scalar.addi v876 v875
  let v883 : BitVec 32 := Scalar.select v881 v882 v876
  let c1_i32_630 : BitVec 32 := 1#32
  let v884 : BitVec 32 := Scalar.muli v883 c1_i32_630
  let v885 : BitVec 32 := Scalar.addi c0_i32_631 v884
  v885.toNat
def k0_dev53 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_636 : BitVec 32 := 22#32
  let v894 : BitVec 32 := Scalar.addi v2 c22_i32_636
  let c32_i32_637 : BitVec 32 := 32#32
  let c0_i32_638 : BitVec 32 := 0#32
  let v895 : BitVec 1 := Scalar.cmpi .eq c32_i32_637 c0_i32_638
  let c1_i32_639 : BitVec 32 := 1#32
  let v896 : BitVec 32 := Scalar.select v895 c1_i32_639 c32_i32_637
  let v897 : BitVec 32 := Scalar.remsi v894 v896
  let c0_i32_641 : BitVec 32 := 0#32
  let v899 : BitVec 1 := Scalar.cmpi .slt v897 c0_i32_641
  let c0_i32_642 : BitVec 32 := 0#32
  let v900 : BitVec 1 := Scalar.cmpi .slt v896 c0_i32_642
  let v901 : BitVec 1 := Scalar.xori v899 v900
  let c0_i32_640 : BitVec 32 := 0#32
  let v898 : BitVec 1 := Scalar.cmpi .ne v897 c0_i32_640
  let v902 : BitVec 1 := Scalar.andi v901 v898
  let v903 : BitVec 32 := Scalar.addi v897 v896
  let v904 : BitVec 32 := Scalar.select v902 v903 v897
  let c1_i32_645 : BitVec 32 := 1#32
  let v905 : BitVec 32 := Scalar.muli v904 c1_i32_645
  let v906 : BitVec 32 := Scalar.addi c0_i32_646 v905
  v906.toNat
def k0_dev54 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_651 : BitVec 32 := 23#32
  let v915 : BitVec 32 := Scalar.addi v2 c23_i32_651
  let c32_i32_652 : BitVec 32 := 32#32
  let c0_i32_653 : BitVec 32 := 0#32
  let v916 : BitVec 1 := Scalar.cmpi .eq c32_i32_652 c0_i32_653
  let c1_i32_654 : BitVec 32 := 1#32
  let v917 : BitVec 32 := Scalar.select v916 c1_i32_654 c32_i32_652
  let v918 : BitVec 32 := Scalar.remsi v915 v917
  let c0_i32_656 : BitVec 32 := 0#32
  let v920 : BitVec 1 := Scalar.cmpi .slt v918 c0_i32_656
  let c0_i32_657 : BitVec 32 := 0#32
  let v921 : BitVec 1 := Scalar.cmpi .slt v917 c0_i32_657
  let v922 : BitVec 1 := Scalar.xori v920 v921
  let c0_i32_655 : BitVec 32 := 0#32
  let v919 : BitVec 1 := Scalar.cmpi .ne v918 c0_i32_655
  let v923 : BitVec 1 := Scalar.andi v922 v919
  let v924 : BitVec 32 := Scalar.addi v918 v917
  let v925 : BitVec 32 := Scalar.select v923 v924 v918
  let c1_i32_660 : BitVec 32 := 1#32
  let v926 : BitVec 32 := Scalar.muli v925 c1_i32_660
  let v927 : BitVec 32 := Scalar.addi c0_i32_661 v926
  v927.toNat
def k0_dev55 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_666 : BitVec 32 := 24#32
  let v936 : BitVec 32 := Scalar.addi v2 c24_i32_666
  let c32_i32_667 : BitVec 32 := 32#32
  let c0_i32_668 : BitVec 32 := 0#32
  let v937 : BitVec 1 := Scalar.cmpi .eq c32_i32_667 c0_i32_668
  let c1_i32_669 : BitVec 32 := 1#32
  let v938 : BitVec 32 := Scalar.select v937 c1_i32_669 c32_i32_667
  let v939 : BitVec 32 := Scalar.remsi v936 v938
  let c0_i32_671 : BitVec 32 := 0#32
  let v941 : BitVec 1 := Scalar.cmpi .slt v939 c0_i32_671
  let c0_i32_672 : BitVec 32 := 0#32
  let v942 : BitVec 1 := Scalar.cmpi .slt v938 c0_i32_672
  let v943 : BitVec 1 := Scalar.xori v941 v942
  let c0_i32_670 : BitVec 32 := 0#32
  let v940 : BitVec 1 := Scalar.cmpi .ne v939 c0_i32_670
  let v944 : BitVec 1 := Scalar.andi v943 v940
  let v945 : BitVec 32 := Scalar.addi v939 v938
  let v946 : BitVec 32 := Scalar.select v944 v945 v939
  let c1_i32_675 : BitVec 32 := 1#32
  let v947 : BitVec 32 := Scalar.muli v946 c1_i32_675
  let v948 : BitVec 32 := Scalar.addi c0_i32_676 v947
  v948.toNat
def k0_dev56 (d0 : Dev nD) : Nat :=
  let c0_i32_691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_681 : BitVec 32 := 25#32
  let v957 : BitVec 32 := Scalar.addi v2 c25_i32_681
  let c32_i32_682 : BitVec 32 := 32#32
  let c0_i32_683 : BitVec 32 := 0#32
  let v958 : BitVec 1 := Scalar.cmpi .eq c32_i32_682 c0_i32_683
  let c1_i32_684 : BitVec 32 := 1#32
  let v959 : BitVec 32 := Scalar.select v958 c1_i32_684 c32_i32_682
  let v960 : BitVec 32 := Scalar.remsi v957 v959
  let c0_i32_686 : BitVec 32 := 0#32
  let v962 : BitVec 1 := Scalar.cmpi .slt v960 c0_i32_686
  let c0_i32_687 : BitVec 32 := 0#32
  let v963 : BitVec 1 := Scalar.cmpi .slt v959 c0_i32_687
  let v964 : BitVec 1 := Scalar.xori v962 v963
  let c0_i32_685 : BitVec 32 := 0#32
  let v961 : BitVec 1 := Scalar.cmpi .ne v960 c0_i32_685
  let v965 : BitVec 1 := Scalar.andi v964 v961
  let v966 : BitVec 32 := Scalar.addi v960 v959
  let v967 : BitVec 32 := Scalar.select v965 v966 v960
  let c1_i32_690 : BitVec 32 := 1#32
  let v968 : BitVec 32 := Scalar.muli v967 c1_i32_690
  let v969 : BitVec 32 := Scalar.addi c0_i32_691 v968
  v969.toNat
def k0_dev57 (d0 : Dev nD) : Nat :=
  let c0_i32_706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_696 : BitVec 32 := 26#32
  let v978 : BitVec 32 := Scalar.addi v2 c26_i32_696
  let c32_i32_697 : BitVec 32 := 32#32
  let c0_i32_698 : BitVec 32 := 0#32
  let v979 : BitVec 1 := Scalar.cmpi .eq c32_i32_697 c0_i32_698
  let c1_i32_699 : BitVec 32 := 1#32
  let v980 : BitVec 32 := Scalar.select v979 c1_i32_699 c32_i32_697
  let v981 : BitVec 32 := Scalar.remsi v978 v980
  let c0_i32_701 : BitVec 32 := 0#32
  let v983 : BitVec 1 := Scalar.cmpi .slt v981 c0_i32_701
  let c0_i32_702 : BitVec 32 := 0#32
  let v984 : BitVec 1 := Scalar.cmpi .slt v980 c0_i32_702
  let v985 : BitVec 1 := Scalar.xori v983 v984
  let c0_i32_700 : BitVec 32 := 0#32
  let v982 : BitVec 1 := Scalar.cmpi .ne v981 c0_i32_700
  let v986 : BitVec 1 := Scalar.andi v985 v982
  let v987 : BitVec 32 := Scalar.addi v981 v980
  let v988 : BitVec 32 := Scalar.select v986 v987 v981
  let c1_i32_705 : BitVec 32 := 1#32
  let v989 : BitVec 32 := Scalar.muli v988 c1_i32_705
  let v990 : BitVec 32 := Scalar.addi c0_i32_706 v989
  v990.toNat
def k0_dev58 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_711 : BitVec 32 := 27#32
  let v999 : BitVec 32 := Scalar.addi v2 c27_i32_711
  let c32_i32_712 : BitVec 32 := 32#32
  let c0_i32_713 : BitVec 32 := 0#32
  let v1000 : BitVec 1 := Scalar.cmpi .eq c32_i32_712 c0_i32_713
  let c1_i32_714 : BitVec 32 := 1#32
  let v1001 : BitVec 32 := Scalar.select v1000 c1_i32_714 c32_i32_712
  let v1002 : BitVec 32 := Scalar.remsi v999 v1001
  let c0_i32_716 : BitVec 32 := 0#32
  let v1004 : BitVec 1 := Scalar.cmpi .slt v1002 c0_i32_716
  let c0_i32_717 : BitVec 32 := 0#32
  let v1005 : BitVec 1 := Scalar.cmpi .slt v1001 c0_i32_717
  let v1006 : BitVec 1 := Scalar.xori v1004 v1005
  let c0_i32_715 : BitVec 32 := 0#32
  let v1003 : BitVec 1 := Scalar.cmpi .ne v1002 c0_i32_715
  let v1007 : BitVec 1 := Scalar.andi v1006 v1003
  let v1008 : BitVec 32 := Scalar.addi v1002 v1001
  let v1009 : BitVec 32 := Scalar.select v1007 v1008 v1002
  let c1_i32_720 : BitVec 32 := 1#32
  let v1010 : BitVec 32 := Scalar.muli v1009 c1_i32_720
  let v1011 : BitVec 32 := Scalar.addi c0_i32_721 v1010
  v1011.toNat
def k0_dev59 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_726 : BitVec 32 := 28#32
  let v1020 : BitVec 32 := Scalar.addi v2 c28_i32_726
  let c32_i32_727 : BitVec 32 := 32#32
  let c0_i32_728 : BitVec 32 := 0#32
  let v1021 : BitVec 1 := Scalar.cmpi .eq c32_i32_727 c0_i32_728
  let c1_i32_729 : BitVec 32 := 1#32
  let v1022 : BitVec 32 := Scalar.select v1021 c1_i32_729 c32_i32_727
  let v1023 : BitVec 32 := Scalar.remsi v1020 v1022
  let c0_i32_731 : BitVec 32 := 0#32
  let v1025 : BitVec 1 := Scalar.cmpi .slt v1023 c0_i32_731
  let c0_i32_732 : BitVec 32 := 0#32
  let v1026 : BitVec 1 := Scalar.cmpi .slt v1022 c0_i32_732
  let v1027 : BitVec 1 := Scalar.xori v1025 v1026
  let c0_i32_730 : BitVec 32 := 0#32
  let v1024 : BitVec 1 := Scalar.cmpi .ne v1023 c0_i32_730
  let v1028 : BitVec 1 := Scalar.andi v1027 v1024
  let v1029 : BitVec 32 := Scalar.addi v1023 v1022
  let v1030 : BitVec 32 := Scalar.select v1028 v1029 v1023
  let c1_i32_735 : BitVec 32 := 1#32
  let v1031 : BitVec 32 := Scalar.muli v1030 c1_i32_735
  let v1032 : BitVec 32 := Scalar.addi c0_i32_736 v1031
  v1032.toNat
def k0_dev60 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_741 : BitVec 32 := 29#32
  let v1041 : BitVec 32 := Scalar.addi v2 c29_i32_741
  let c32_i32_742 : BitVec 32 := 32#32
  let c0_i32_743 : BitVec 32 := 0#32
  let v1042 : BitVec 1 := Scalar.cmpi .eq c32_i32_742 c0_i32_743
  let c1_i32_744 : BitVec 32 := 1#32
  let v1043 : BitVec 32 := Scalar.select v1042 c1_i32_744 c32_i32_742
  let v1044 : BitVec 32 := Scalar.remsi v1041 v1043
  let c0_i32_746 : BitVec 32 := 0#32
  let v1046 : BitVec 1 := Scalar.cmpi .slt v1044 c0_i32_746
  let c0_i32_747 : BitVec 32 := 0#32
  let v1047 : BitVec 1 := Scalar.cmpi .slt v1043 c0_i32_747
  let v1048 : BitVec 1 := Scalar.xori v1046 v1047
  let c0_i32_745 : BitVec 32 := 0#32
  let v1045 : BitVec 1 := Scalar.cmpi .ne v1044 c0_i32_745
  let v1049 : BitVec 1 := Scalar.andi v1048 v1045
  let v1050 : BitVec 32 := Scalar.addi v1044 v1043
  let v1051 : BitVec 32 := Scalar.select v1049 v1050 v1044
  let c1_i32_750 : BitVec 32 := 1#32
  let v1052 : BitVec 32 := Scalar.muli v1051 c1_i32_750
  let v1053 : BitVec 32 := Scalar.addi c0_i32_751 v1052
  v1053.toNat
def k0_dev61 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_756 : BitVec 32 := 30#32
  let v1062 : BitVec 32 := Scalar.addi v2 c30_i32_756
  let c32_i32_757 : BitVec 32 := 32#32
  let c0_i32_758 : BitVec 32 := 0#32
  let v1063 : BitVec 1 := Scalar.cmpi .eq c32_i32_757 c0_i32_758
  let c1_i32_759 : BitVec 32 := 1#32
  let v1064 : BitVec 32 := Scalar.select v1063 c1_i32_759 c32_i32_757
  let v1065 : BitVec 32 := Scalar.remsi v1062 v1064
  let c0_i32_761 : BitVec 32 := 0#32
  let v1067 : BitVec 1 := Scalar.cmpi .slt v1065 c0_i32_761
  let c0_i32_762 : BitVec 32 := 0#32
  let v1068 : BitVec 1 := Scalar.cmpi .slt v1064 c0_i32_762
  let v1069 : BitVec 1 := Scalar.xori v1067 v1068
  let c0_i32_760 : BitVec 32 := 0#32
  let v1066 : BitVec 1 := Scalar.cmpi .ne v1065 c0_i32_760
  let v1070 : BitVec 1 := Scalar.andi v1069 v1066
  let v1071 : BitVec 32 := Scalar.addi v1065 v1064
  let v1072 : BitVec 32 := Scalar.select v1070 v1071 v1065
  let c1_i32_765 : BitVec 32 := 1#32
  let v1073 : BitVec 32 := Scalar.muli v1072 c1_i32_765
  let v1074 : BitVec 32 := Scalar.addi c0_i32_766 v1073
  v1074.toNat
def k0_dev62 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_771 : BitVec 32 := 31#32
  let v1083 : BitVec 32 := Scalar.addi v2 c31_i32_771
  let c32_i32_772 : BitVec 32 := 32#32
  let c0_i32_773 : BitVec 32 := 0#32
  let v1084 : BitVec 1 := Scalar.cmpi .eq c32_i32_772 c0_i32_773
  let c1_i32_774 : BitVec 32 := 1#32
  let v1085 : BitVec 32 := Scalar.select v1084 c1_i32_774 c32_i32_772
  let v1086 : BitVec 32 := Scalar.remsi v1083 v1085
  let c0_i32_776 : BitVec 32 := 0#32
  let v1088 : BitVec 1 := Scalar.cmpi .slt v1086 c0_i32_776
  let c0_i32_777 : BitVec 32 := 0#32
  let v1089 : BitVec 1 := Scalar.cmpi .slt v1085 c0_i32_777
  let v1090 : BitVec 1 := Scalar.xori v1088 v1089
  let c0_i32_775 : BitVec 32 := 0#32
  let v1087 : BitVec 1 := Scalar.cmpi .ne v1086 c0_i32_775
  let v1091 : BitVec 1 := Scalar.andi v1090 v1087
  let v1092 : BitVec 32 := Scalar.addi v1086 v1085
  let v1093 : BitVec 32 := Scalar.select v1091 v1092 v1086
  let c1_i32_780 : BitVec 32 := 1#32
  let v1094 : BitVec 32 := Scalar.muli v1093 c1_i32_780
  let v1095 : BitVec 32 := Scalar.addi c0_i32_781 v1094
  v1095.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.IdealProgram.lean ====
/-
# The kernel's body as loops

The printed body is one straight line of operations: 31 signals, 8 copies of the weights' row blocks, the cast
and the store of the send buffer, the wait for 31 signals, 31 remote copies, the 31 waits for the blocks that
arrive, eight rounds of one wait and four block products, the scaled store, and the 31 waits for the blocks that
left. Here the same operations are written as loops over the position `r : Fin 31` (the copy at distance
`r + 1`), over the weights' row block `i : Fin 8` and over the block product `j : Fin 32`, and the two
programs are shown equal.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-! ## The memrefs and semaphores -/

/-- The staged columns of `x`. -/
abbrev xM : Memref sig .tc .vmem S4096x128 .f32 := Memref.whole cc0_stg0_0
/-- The weights in main memory. -/
abbrev wM : Memref sig .tc .hbm S4096x2048 .f32 := Memref.whole main_arg1
/-- The two staged scales. -/
abbrev sxM : Memref sig .tc .smem S1 .f32 := Memref.whole cc0_stg1_0
abbrev swM : Memref sig .tc .smem S1 .f32 := Memref.whole cc0_stg2_0
/-- The staged rows of the result. -/
abbrev oM : Memref sig .tc .vmem S128x2048 .f32 := Memref.whole cc0_stg3_0
/-- The send buffer, the receive buffer and the weights' buffer. -/
abbrev sM : Memref sig .tc .vmem S32x128x128 .fp8e4m3 := Memref.whole cc0_scratch0
abbrev rM : Memref sig .tc .vmem S32x128x128 .fp8e4m3 := Memref.whole cc0_scratch1
abbrev bM : Memref sig .tc .vmem S4096x2048 .f32 := Memref.whole cc0_scratch4

/-- The barrier semaphore. -/
abbrev barS : Sem sig := (SemArray.scalar (sig.barrier 0 rfl) : Sems sig S_).sem

theorem inb32 (r : Fin 31) : ∀ a, (![r.val + 1] : Fin 1 → Nat) a + S1.size a ≤ S32.size a := by
  revert r; decide
theorem inb8 (i : Fin 8) : ∀ a, (![i.val] : Fin 1 → Nat) a + S1.size a ≤ S8.size a := by
  revert i; decide
theorem inbRows (i : Fin 8) : ∀ a, (![512 * i.val, 0] : Fin 2 → Nat) a + S512x2048.size a ≤ S4096x2048.size a := by
  revert i; decide
theorem inbBlock (j : Fin 32) : ∀ a, (![128 * j.val, 0] : Fin 2 → Nat) a + S128x2048.size a ≤ S4096x2048.size a := by
  revert j; decide
theorem inbSlot (j : Fin 32) : ∀ a, (![j.val, 0, 0] : Fin 3 → Nat) a + S1x128x128.size a ≤ S32x128x128.size a := by
  revert j; decide

/-- The semaphores a copy at position `r` completes on, at its source and at its destination. -/
def sendS (r : Fin 31) : DmaSem sig :=
  ((cc0_scratch2.slice (Rect.unit (s := S32) ![r.val + 1] S1.size (inb32 r))).squeeze S_ squeezes_S1_S_).sem
def recvS (r : Fin 31) : DmaSem sig :=
  ((cc0_scratch3.slice (Rect.unit (s := S32) ![r.val + 1] S1.size (inb32 r))).squeeze S_ squeezes_S1_S_).sem
/-- The semaphore the copy of row block `i` of the weights completes on. -/
def rowsS (i : Fin 8) : DmaSem sig :=
  ((cc0_scratch5.slice (Rect.unit (s := S8) ![i.val] S1.size (inb8 i))).squeeze S_ squeezes_S1_S_).sem

/-- The slot of the send buffer that the copy at position `r` reads. -/
def srcM (d : Dev nD) (r : Fin 31) : Memref sig .tc .vmem S128x128 .fp8e4m3 :=
  (sM.slice (Rect.unit (s := S32x128x128) (k0_off3 d (BitVec.ofNat 32 (1 + r.val))) S1x128x128.size (k0_off3_inb d r)) (fun _ => rfl)).squeeze
    S128x128 squeezes_S1x128x128_S128x128
/-- The slot of the receive buffer that device `d`'s copies write. -/
def dstM (d : Dev nD) : Memref sig .tc .vmem S128x128 .fp8e4m3 :=
  (rM.slice (Rect.unit (s := S32x128x128) (k0_off2 d) S1x128x128.size (k0_off2_inb d)) (fun _ => rfl)).squeeze
    S128x128 squeezes_S1x128x128_S128x128
/-- Row block `i` of the weights, in main memory and in their buffer. -/
def wRows (i : Fin 8) : Memref sig .tc .hbm S512x2048 .f32 :=
  wM.slice (Rect.unit (s := S4096x2048) ![512 * i.val, 0] S512x2048.size (inbRows i)) (fun _ => rfl)
def bRows (i : Fin 8) : Memref sig .tc .vmem S512x2048 .f32 :=
  bM.slice (Rect.unit (s := S4096x2048) ![512 * i.val, 0] S512x2048.size (inbRows i)) (fun _ => rfl)

theorem srcM_wordExact (d : Dev nD) (r : Fin 31) : (srcM d r).view.WordExact :=
  ((Memref.isWhole_whole cc0_scratch0).wordExact_slice rfl _ (k0_off3_wordsfp8e4m3 d r)).reshape _ _
theorem dstM_wordExact (d : Dev nD) : (dstM d).view.WordExact :=
  ((Memref.isWhole_whole cc0_scratch1).wordExact_slice rfl _ (k0_off2_wordsfp8e4m3 d)).reshape _ _

/-- The device the `r`-th signal and the `r`-th remote copy name, as the program computes them. -/
def sigDev (d : Dev nD) : Fin 31 → Dev nD :=
  ![⟨k0_dev1 d, k0_dev1_lt d⟩, ⟨k0_dev2 d, k0_dev2_lt d⟩, ⟨k0_dev3 d, k0_dev3_lt d⟩,
    ⟨k0_dev4 d, k0_dev4_lt d⟩, ⟨k0_dev5 d, k0_dev5_lt d⟩, ⟨k0_dev6 d, k0_dev6_lt d⟩,
    ⟨k0_dev7 d, k0_dev7_lt d⟩, ⟨k0_dev8 d, k0_dev8_lt d⟩, ⟨k0_dev9 d, k0_dev9_lt d⟩,
    ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩,
    ⟨k0_dev16 d, k0_dev16_lt d⟩, ⟨k0_dev17 d, k0_dev17_lt d⟩, ⟨k0_dev18 d, k0_dev18_lt d⟩,
    ⟨k0_dev19 d, k0_dev19_lt d⟩, ⟨k0_dev20 d, k0_dev20_lt d⟩, ⟨k0_dev21 d, k0_dev21_lt d⟩,
    ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩,
    ⟨k0_dev31 d, k0_dev31_lt d⟩]
def sendDev (d : Dev nD) : Fin 31 → Dev nD :=
  ![⟨k0_dev32 d, k0_dev32_lt d⟩, ⟨k0_dev33 d, k0_dev33_lt d⟩, ⟨k0_dev34 d, k0_dev34_lt d⟩,
    ⟨k0_dev35 d, k0_dev35_lt d⟩, ⟨k0_dev36 d, k0_dev36_lt d⟩, ⟨k0_dev37 d, k0_dev37_lt d⟩,
    ⟨k0_dev38 d, k0_dev38_lt d⟩, ⟨k0_dev39 d, k0_dev39_lt d⟩, ⟨k0_dev40 d, k0_dev40_lt d⟩,
    ⟨k0_dev41 d, k0_dev41_lt d⟩, ⟨k0_dev42 d, k0_dev42_lt d⟩, ⟨k0_dev43 d, k0_dev43_lt d⟩,
    ⟨k0_dev44 d, k0_dev44_lt d⟩, ⟨k0_dev45 d, k0_dev45_lt d⟩, ⟨k0_dev46 d, k0_dev46_lt d⟩,
    ⟨k0_dev47 d, k0_dev47_lt d⟩, ⟨k0_dev48 d, k0_dev48_lt d⟩, ⟨k0_dev49 d, k0_dev49_lt d⟩,
    ⟨k0_dev50 d, k0_dev50_lt d⟩, ⟨k0_dev51 d, k0_dev51_lt d⟩, ⟨k0_dev52 d, k0_dev52_lt d⟩,
    ⟨k0_dev53 d, k0_dev53_lt d⟩, ⟨k0_dev54 d, k0_dev54_lt d⟩, ⟨k0_dev55 d, k0_dev55_lt d⟩,
    ⟨k0_dev56 d, k0_dev56_lt d⟩, ⟨k0_dev57 d, k0_dev57_lt d⟩, ⟨k0_dev58 d, k0_dev58_lt d⟩,
    ⟨k0_dev59 d, k0_dev59_lt d⟩, ⟨k0_dev60 d, k0_dev60_lt d⟩, ⟨k0_dev61 d, k0_dev61_lt d⟩,
    ⟨k0_dev62 d, k0_dev62_lt d⟩]

/-! ## The loops -/

/-- The positions, the row blocks, and the products of one row block, in the order the program takes them. -/
abbrev pos : List (Fin 31) :=
  [0, 1, 2, 3, 4, 5, 6, 7, 8, 9, 10, 11, 12, 13, 14, 15, 16, 17, 18, 19, 20, 21, 22, 23, 24, 25, 26, 27, 28, 29, 30]
abbrev rows : List (Fin 8) := [0, 1, 2, 3, 4, 5, 6, 7]
abbrev sub : List (Fin 4) := [0, 1, 2, 3]

/-- One operation for each member of a list, then the rest. -/
def each {A : Type} {α : Type} : List A → (A → TpuEff nD τ sig (Elt F) Λ₀ .tc PUnit) →
    Prog (TpuEff nD τ sig (Elt F) Λ₀ .tc) α → Prog (TpuEff nD τ sig (Elt F) Λ₀ .tc) α
  | [], _, k => k
  | a :: l, f, k => .op (f a) fun _ => each l f k

/-- One stretch of program for each member of a list, carrying a value, then the rest. -/
def carry {A B : Type} {α : Type} (f : A → B → (B → Prog (TpuEff nD τ sig (Elt F) Λ₀ .tc) α) → Prog (TpuEff nD τ sig (Elt F) Λ₀ .tc) α) :
    List A → B → (B → Prog (TpuEff nD τ sig (Elt F) Λ₀ .tc) α) → Prog (TpuEff nD τ sig (Elt F) Λ₀ .tc) α
  | [], b, k => k b
  | a :: l, b, k => f a b fun b' => carry f l b' k

/-- Product `q` of row block `i` among the 32. -/
def blk (i : Fin 8) (q : Fin 4) : Fin 32 := ⟨4 * i.val + q.val, by omega⟩

/-- The rectangles the products load. -/
abbrev slotR (j : Fin 32) : Rect S32x128x128 := Rect.unit (s := S32x128x128) ![j.val, 0, 0] S1x128x128.size (inbSlot j)
abbrev blockR (j : Fin 32) : Rect S4096x2048 := Rect.unit (s := S4096x2048) ![128 * j.val, 0] S128x2048.size (inbBlock j)

/-- One product of a received block with the matching rows of the weights, added to what is carried. -/
def addProd (a : FVec F S128x2048 .f32) (v : Vec F S1x128x128 .fp8e4m3) (w : Vec F S128x2048 .f32) : FVec F S128x2048 .f32 :=
  addf a (matmul dot_S128x128_S128x2048_S128x2048_1_0_0_1_n_n none (shapeCast S128x128 v shapeCasts_S1x128x128_S128x128)
    (truncf .fp8e5m2 w bitsLt_fp8e5m2_f32) (constant S128x2048 .f32 0x00000000#32))

/-- The loads and the product of block `j`. -/
def prodStep {α : Type} (j : Fin 32) (a : FVec F S128x2048 .f32)
    (k : FVec F S128x2048 .f32 → Prog (TpuEff nD τ sig (Elt F) Λ₀ .tc) α) : Prog (TpuEff nD τ sig (Elt F) Λ₀ .tc) α :=
  .op (.load rM (slotR j).toLoadRect (View.loadsAt_vmem h_S1x128x128)) fun v =>
    .op (.load bM (blockR j).toLoadRect (View.loadsAt_vmem h_S128x2048)) fun w => k (addProd a v w)

/-- The wait for row block `i` and its four products. -/
def rowStep {α : Type} (i : Fin 8) (a : FVec F S128x2048 .f32)
    (k : FVec F S128x2048 .f32 → Prog (TpuEff nD τ sig (Elt F) Λ₀ .tc) α) : Prog (TpuEff nD τ sig (Elt F) Λ₀ .tc) α :=
  .op (.waitDma2 (rowsS i) (wRows i) (bRows i) (View.wordExact_bits rfl) (View.wordExact_bits rfl)) fun _ =>
    carry (fun q => prodStep (blk i q)) sub a k

/-! ## The stretches -/

/-- What a signal, a copy and a wait are at a position. -/
def sigOp (d : Dev nD) (r : Fin 31) : TpuEff nD τ sig (Elt F) Λ₀ .tc PUnit := .semSignal (Dev.tc (sigDev d r) : Thread nD τ) barS ((1 : ℕ) : ℤ)
def rowsOp (i : Fin 8) : TpuEff nD τ sig (Elt F) Λ₀ .tc PUnit :=
  .enqueueDma (wRows i) (.here (bRows i)) (.dma (rowsS i)) (View.wordExact_bits rfl) (View.wordExact_bits rfl) ⟨Or.inl rfl, trivial⟩
def sendOp (d : Dev nD) (r : Fin 31) : TpuEff nD τ sig (Elt F) Λ₀ .tc PUnit :=
  .enqueueDma (srcM d r) (.remote (Dev.tc (sendDev d r) : Thread nD τ) (dstM d) (.dma (sendS r))) (.dma (recvS r)) (srcM_wordExact d r) (dstM_wordExact d)
    ⟨⟨rfl, Or.inl rfl⟩, trivial⟩
def recvWaitOp (d : Dev nD) (r : Fin 31) : TpuEff nD τ sig (Elt F) Λ₀ .tc PUnit :=
  .waitDma2 (recvS r) (srcM d r) (dstM d) (srcM_wordExact d r) (dstM_wordExact d)
def sendWaitOp (d : Dev nD) (r : Fin 31) : TpuEff nD τ sig (Elt F) Λ₀ .tc PUnit :=
  .waitDma2 (sendS r) (dstM d) (srcM d r) (dstM_wordExact d) (srcM_wordExact d r)

abbrev wholeX : Rect S4096x128 := Rect.unit (s := S4096x128) ![0, 0] S4096x128.size inb_S4096x128_S4096x128_0_0
abbrev wholeS : Rect S32x128x128 := Rect.unit (s := S32x128x128) ![0, 0, 0] S32x128x128.size inb_S32x128x128_S32x128x128_0_0_0
abbrev wholeO : Rect S128x2048 := Rect.unit (s := S128x2048) ![0, 0] S128x2048.size inb_S128x2048_S128x2048_0_0
abbrev wholeC : Rect S1 := Rect.unit (s := S1) ![0] S1.size inb_S1_S1_0
abbrev ownR (d : Dev nD) : Rect S32x128x128 := Rect.unit (s := S32x128x128) (k0_off1 d) S1x128x128.size (k0_off1_inb d)

/-- From the scales on: the scaled store and the waits for what left. -/
def tailProg (d : Dev nD) (a : FVec F S128x2048 .f32) : Prog (TpuEff nD τ sig (Elt F) Λ₀ .tc) PUnit :=
  .op (.load sxM wholeC.toLoadRect (View.loadsAt_rect (View.loads_smem_one rfl numel1_S1))) fun u =>
    .op (.load swM wholeC.toLoadRect (View.loadsAt_rect (View.loads_smem_one rfl numel1_S1))) fun v =>
      .op (.load oM wholeO.toLoadRect (View.loadsAt_vmem h_S128x2048)) fun _ =>
        .op (.store oM wholeO (k0_pay18 a (u (Shape.Idx.first (numel1_S1.symm ▸ Nat.one_pos))) (v (Shape.Idx.first (numel1_S1.symm ▸ Nat.one_pos))))
          Finset.univ (View.stores_vmem_bits_univ h_S128x2048 rfl) (.inl rfl)) fun _ =>
            each pos (sendWaitOp d) (.ret ⟨⟩)

/-- From the barrier's wait on. -/
def midProg (d : Dev nD) : Prog (TpuEff nD τ sig (Elt F) Λ₀ .tc) PUnit :=
  .op (.semWait barS ((31 : ℕ) : ℤ)) fun _ =>
    each pos (sendOp d) <| each pos (recvWaitOp d) <|
      carry rowStep rows (broadcast S128x2048 (Scalar.ofBits .f32 0x00000000#32)) (tailProg d)

/-- The whole body. -/
def bodyProg : Prog (TpuEff nD τ sig (Elt F) Λ₀ .tc) PUnit :=
  .op .deviceId fun d =>
    each pos (sigOp d) <| each rows rowsOp <|
      .op (.load xM wholeX.toLoadRect (View.loadsAt_vmem h_S4096x128)) fun x =>
        .op (.load sM wholeS.toLoadRect (View.loadsAt_vmem h_S32x128x128)) fun _ =>
          .op (.store sM wholeS (k0_pay2 (k0_pay1 x)) Finset.univ (View.stores_vmem h_S32x128x128 ((Memref.isWhole_whole cc0_scratch0).storeExact_slice rfl _ packedfp8e4m3_S32x128x128_S32x128x128_0_0_0) (fun _ => rfl)) (.inl rfl)) fun _ =>
            .op (.load sM (ownR d).toLoadRect (View.loadsAt_vmem h_S1x128x128)) fun s =>
              .op (.load rM (ownR d).toLoadRect (View.loadsAt_vmem h_S1x128x128)) fun _ =>
                .op (.store rM (ownR d) (k0_pay3 s) Finset.univ (View.stores_vmem h_S1x128x128 ((Memref.isWhole_whole cc0_scratch1).storeExact_slice rfl _ (k0_off1_packedfp8e4m3 d)) (fun _ => rfl)) (.inl rfl)) fun _ =>
                  midProg d

set_option maxRecDepth 65536 in
/-- The printed body is the loops. -/
theorem body_eq : bodyAt0 (F := F) t0_0 = bodyProg := rfl

end Cert.KernelIdeal.Run

end
-- ==== Proof.IdealSlots.lean ====
/-
# Devices, slots and contents

The 32 devices stand in a circle. Device `c`'s copy at position `r` goes to `peer c r`, the device `r + 1` places on,
and the copy it receives at that position comes from `peer c (rev r)`. The send and the receive buffer have a slot for each
device: `c` sends its slot `d` to `d`, where it lands in slot `c`. The weights go to their buffer in eight blocks of
512 rows.
-/
module

public import proofs.«01_k».proof.Proof.IdealProgram
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The circle -/

/-- The device `r + 1` places after `c`. -/
def peer (c : Dev nD) (r : Fin 31) : Dev nD := ⟨(c.val + r.val + 1) % 32, Nat.mod_lt _ (by decide)⟩
/-- The position that leads back. -/
def rev (r : Fin 31) : Fin 31 := ⟨30 - r.val, by omega⟩

theorem rev_rev (r : Fin 31) : rev (rev r) = r := Fin.ext (by simp only [rev]; omega)
theorem peer_rev (c : Dev nD) (r : Fin 31) : peer (peer c r) (rev r) = c := by
  have : c.val < 32 := c.isLt; exact Fin.ext (by simp only [rev, peer]; omega)
theorem rev_peer (c : Dev nD) (r : Fin 31) : peer (peer c (rev r)) r = c := by
  have : c.val < 32 := c.isLt; exact Fin.ext (by simp only [rev, peer]; omega)
theorem peer_ne (c : Dev nD) (r : Fin 31) : peer c r ≠ c := fun h => by
  have := congrArg Fin.val h; have : c.val < 32 := c.isLt; simp only [peer] at *; omega
theorem peer_inj (c : Dev nD) : Function.Injective (peer c) := fun r s h => by
  have := congrArg Fin.val h; have : c.val < 32 := c.isLt; exact Fin.ext (by simp only [peer] at *; omega)
/-- Every other device is some number of places on. -/
theorem peer_surj (c d : Dev nD) (h : d ≠ c) : ∃ r, peer c r = d := by
  have : c.val < 32 := c.isLt
  have : d.val < 32 := d.isLt
  have hne : d.val ≠ c.val := fun e => h (Fin.ext e)
  exact ⟨⟨(d.val + 31 - c.val) % 32, by omega⟩, Fin.ext (by simp only [peer]; omega)⟩

/-- The devices are `c` and its 31 peers. -/
theorem erase_eq (c : Dev nD) : Finset.univ.erase c = Finset.univ.map ⟨peer c, peer_inj c⟩ := by
  ext d; simp only [Finset.mem_erase, Finset.mem_univ, and_true, Finset.mem_map, true_and, Function.Embedding.coeFn_mk]
  exact ⟨peer_surj c d, fun ⟨r, hr⟩ => hr ▸ peer_ne c r⟩

/-- A separating conjunction over the devices: `c`'s part, and its peers'. -/
theorem sep_peers {M : Type} [URA M] (c : Dev nD) (Φ : Dev nD → sProp M) :
    bigSep Finset.univ Φ = BI.sep (Φ c) (bigSep Finset.univ fun r => Φ (peer c r)) := by
  rw [bigSep_univ_split c, erase_eq c, bigSep_map]; rfl

/-- The devices the program computes. -/
theorem sigDev_eq : ∀ (d : Dev nD) (r : Fin 31), sigDev d r = peer d r := by decide +kernel
theorem sendDev_eq : ∀ (d : Dev nD) (r : Fin 31), sendDev d r = peer d r := by decide +kernel
theorem off3_eq : ∀ (d : Dev nD) (r : Fin 31), k0_off3 d (BitVec.ofNat 32 (1 + r.val)) = ![(peer d r).val, 0, 0] := by
  decide +kernel

/-! ## The slots of the send and the receive buffer, and the weights' row blocks -/

/-- The elements of slot `j`. -/
def slotSet (j : Dev nD) : Finset S32x128x128.Idx := Finset.univ.filter fun i => (i 0).val = j.val
/-- The elements of row block `i`. -/
def rowSet (i : Fin 8) : Finset S4096x2048.Idx := Finset.univ.filter fun x => (x 0).val / 512 = i.val

theorem mem_slotSet (j : Dev nD) (i : S32x128x128.Idx) : i ∈ slotSet j ↔ (i 0).val = j.val := by simp [slotSet]
theorem mem_rowSet (i : Fin 8) (x : S4096x2048.Idx) : x ∈ rowSet i ↔ (x 0).val / 512 = i.val := by simp [rowSet]

theorem slotSet_disjoint (j j' : Dev nD) (h : j ≠ j') : Disjoint (slotSet j) (slotSet j') :=
  Finset.disjoint_left.mpr fun i h1 h2 => h (Fin.ext (((mem_slotSet j i).1 h1).symm.trans ((mem_slotSet j' i).1 h2)))
theorem rowSet_disjoint (i i' : Fin 8) (h : i ≠ i') : Disjoint (rowSet i) (rowSet i') :=
  Finset.disjoint_left.mpr fun x h1 h2 => h (Fin.ext (((mem_rowSet i x).1 h1).symm.trans ((mem_rowSet i' x).1 h2)))

theorem slotSet_cover : (Finset.univ : Finset (Dev nD)).biUnion slotSet = Finset.univ := by
  ext i; simp only [Finset.mem_biUnion, Finset.mem_univ, true_and, mem_slotSet, iff_true]
  exact ⟨⟨(i 0).val, (i 0).isLt⟩, rfl⟩
theorem rowSet_cover : (Finset.univ : Finset (Fin 8)).biUnion rowSet = Finset.univ := by
  ext x; simp only [Finset.mem_biUnion, Finset.mem_univ, true_and, mem_rowSet, iff_true]
  have h : (x 0).val < 4096 := (x 0).isLt
  exact ⟨⟨(x 0).val / 512, by omega⟩, rfl⟩

/-- The rectangle of one slot. -/
theorem slotRect_set (j : Dev nD) {off : Fin 3 → ℕ} (h : off = ![j.val, 0, 0]) (inb : ∀ a, off a + S1x128x128.size a ≤ S32x128x128.size a) :
    (Rect.unit (s := S32x128x128) off S1x128x128.size inb).set = slotSet j := by
  subst h; ext i
  rw [Rect.mem_set_unit, mem_slotSet]
  constructor
  · intro h; have := h 0; simp at this; omega
  · intro h a
    have hi := (i a).isLt
    fin_cases a <;> simp at hi ⊢ <;> omega

/-- The rectangle of one row block. -/
theorem rowRect_set (i : Fin 8) : (Rect.unit (s := S4096x2048) ![512 * i.val, 0] S512x2048.size (inbRows i)).set = rowSet i := by
  ext x
  rw [Rect.mem_set_unit, mem_rowSet]
  constructor
  · intro h; have := h 0; simp at this; omega
  · intro h a
    have hx := (x a).isLt
    fin_cases a <;> simp at hx ⊢ <;> omega

theorem srcM_set (d : Dev nD) (r : Fin 31) : (srcM d r).view.set = slotSet (peer d r) :=
  (View.set_reshape _ _).trans ((View.set_slice_whole _ _).trans (slotRect_set (peer d r) (off3_eq d r) _))
theorem dstM_set (d : Dev nD) : (dstM d).view.set = slotSet d :=
  (View.set_reshape _ _).trans ((View.set_slice_whole _ _).trans (slotRect_set d (k0_off2_eq d) _))
theorem wRows_set (i : Fin 8) : (wRows i).view.set = rowSet i := (View.set_slice_whole _ _).trans (rowRect_set i)
theorem bRows_set (i : Fin 8) : (bRows i).view.set = rowSet i := (View.set_slice_whole _ _).trans (rowRect_set i)
theorem own_set (d : Dev nD) : (ownR d).set = slotSet d := slotRect_set d (k0_off1_eq d) _
theorem slotR_set (j : Fin 32) : (slotR j).set = slotSet j := slotRect_set j rfl _

/-- The rows a product loads lie in their row block. -/
theorem blockR_subset (i : Fin 8) (q : Fin 4) : (blockR (blk i q)).set ⊆ rowSet i := fun x h => by
  rw [Rect.mem_set_unit] at h
  have h0 := h 0
  rw [mem_rowSet]; simp [blk] at h0; omega

/-! ## Contents -/

variable (m : (ℓ : Loc nD τ sig) → Buf (Elt F) ℓ)

/-- The staged columns of `x`, the weights and the two scales on device `c`. -/
def xAt (c : Dev nD) : (cc0_stg0_0 : Ref sig .tc).ty.Contents (Elt F) :=
  (win0_0.blk (0 : Fin 1)).view.read (Elt F) (m ((c : Thread nD τ).loc main_arg0))
def sxAt (c : Dev nD) : (cc0_stg1_0 : Ref sig .tc).ty.Contents (Elt F) :=
  (win0_1.blk (0 : Fin 1)).view.read (Elt F) (m ((c : Thread nD τ).loc main_arg2))
def swAt (c : Dev nD) : (cc0_stg2_0 : Ref sig .tc).ty.Contents (Elt F) :=
  (win0_2.blk (0 : Fin 1)).view.read (Elt F) (m ((c : Thread nD τ).loc main_arg3))
def wAt (c : Dev nD) : (main_arg1 : Ref sig .tc).ty.Contents (Elt F) := m ((c : Thread nD τ).loc main_arg1)

/-- What the send buffer of device `c` holds once stored: its columns of `x`, narrowed, as 32 slots of 128 rows. -/
def sentAt (c : Dev nD) : (cc0_scratch0 : Ref sig .tc).ty.Contents (Elt F) := k0_pay2 (k0_pay1 (xAt m c))

/-- An index of the buffers of slots, moved to slot `c`. -/
def toSlot (c : Dev nD) (i : S32x128x128.Idx) : S32x128x128.Idx := Function.update i 0 ⟨c.val, c.isLt⟩

theorem toSlot_zero (c : Dev nD) (i : S32x128x128.Idx) : (toSlot c i 0).val = c.val := by
  unfold toSlot; rw [Function.update_self]
theorem toSlot_ne (c : Dev nD) (i : S32x128x128.Idx) {a : Fin 3} (h : a ≠ 0) : toSlot c i a = i a := Function.update_of_ne h _ _

/-- What the receive buffer of device `c` holds once everything has arrived: in slot `j`, slot `c` of what `j` sent. -/
def recvAt (c : Dev nD) : (cc0_scratch1 : Ref sig .tc).ty.Contents (Elt F) :=
  fun i => sentAt m ⟨(i 0).val, (i 0).isLt⟩ (toSlot c i)

/-- What the weights' buffer holds once they are copied. -/
def bufAt (c : Dev nD) : (cc0_scratch4 : Ref sig .tc).ty.Contents (Elt F) := wAt m c

/-- What is carried after the product of block `j`. -/
def accStep (c : Dev nD) (j : Fin 32) (a : FVec F S128x2048 .f32) : FVec F S128x2048 .f32 :=
  addProd a (rM.view.readAt (Elt F) (slotR j).toLoadRect (recvAt m c)) (bM.view.readAt (Elt F) (blockR j).toLoadRect (bufAt m c))

/-- What is carried after the four products of row block `i`, and after those of a list of row blocks. -/
def accRow (c : Dev nD) (i : Fin 8) (a : FVec F S128x2048 .f32) : FVec F S128x2048 .f32 :=
  sub.foldl (fun a q => accStep m c (blk i q) a) a
def accAll (c : Dev nD) (l : List (Fin 8)) (a : FVec F S128x2048 .f32) : FVec F S128x2048 .f32 :=
  l.foldl (fun a i => accRow m c i a) a

/-- The rows of the result on device `c`. -/
def outAt (c : Dev nD) : (cc0_stg3_0 : Ref sig .tc).ty.Contents (Elt F) :=
  k0_pay18 (accAll m c rows (broadcast S128x2048 (Scalar.ofBits .f32 0x00000000#32)))
    (sxM.view.readAt (Elt F) wholeC.toLoadRect (sxAt m c) (Shape.Idx.first (numel1_S1.symm ▸ Nat.one_pos)))
    (swM.view.readAt (Elt F) wholeC.toLoadRect (swAt m c) (Shape.Idx.first (numel1_S1.symm ▸ Nat.one_pos)))

/-! ## What the stores and the copies leave -/

omit [FloatOps F] in
/-- Reading a slot through the rectangle at an offset `![j, 0, 0]`: the element's first coordinate is `j`. -/
theorem rect_coord (j : Dev nD) {off : Fin 3 → ℕ} (h : off = ![j.val, 0, 0]) (inb : ∀ a, off a + S1x128x128.size a ≤ S32x128x128.size a)
    (y : S1x128x128.Idx) (j' : Dev nD) {off' : Fin 3 → ℕ} (h' : off' = ![j'.val, 0, 0]) (inb' : ∀ a, off' a + S1x128x128.size a ≤ S32x128x128.size a) :
    (Rect.unit (s := S32x128x128) off S1x128x128.size inb).emb y
      = toSlot j ((Rect.unit (s := S32x128x128) off' S1x128x128.size inb').emb y)
    ∧ ((Rect.unit (s := S32x128x128) off S1x128x128.size inb).emb y 0).val = j.val := by
  subst h; subst h'
  have hy : (y 0).val < 1 := (y 0).isLt
  refine ⟨funext fun a => Fin.ext ?_, ?_⟩
  · by_cases ha : a = 0
    · subst ha
      refine Eq.trans ?_ (toSlot_zero j _).symm
      rw [Rect.emb_apply]; simp; omega
    · refine Eq.trans ?_ (congrArg Fin.val (toSlot_ne j _ ha)).symm
      rw [Rect.emb_apply, Rect.emb_apply]
      fin_cases a
      · exact absurd rfl ha
      · rfl
      · rfl
  · rw [Rect.emb_apply]; simp; omega

theorem toSlot_self (j : Dev nD) (i : S32x128x128.Idx) (h : (i 0).val = j.val) : toSlot j i = i := by
  funext a; by_cases ha : a = 0
  · subst ha; exact Fin.ext ((toSlot_zero j i).trans h.symm)
  · exact toSlot_ne j i ha

/-- The receive buffer's slot `d`. -/
theorem recvAt_of (c d : Dev nD) (i : S32x128x128.Idx) (h : (i 0).val = d.val) : recvAt m c i = sentAt m d (toSlot c i) :=
  congrArg (fun e => sentAt m e (toSlot c i)) (Fin.ext h)

/-- What lands in the receive buffer of `peer d r` from device `d`. -/
theorem landed (d : Dev nD) (r : Fin 31) (fd : (cc0_scratch1 : Ref sig .tc).ty.Contents (Elt F)) :
    ∀ i ∈ slotSet d, (dstM d).view.write (Elt F) fd ((srcM d r).view.read (Elt F) (sentAt m d)) Finset.univ i = recvAt m (peer d r) i := by
  intro i hi
  rw [← dstM_set d] at hi
  obtain ⟨x, -, rfl⟩ := Finset.mem_map.1 hi
  refine (View.write_emb_of_mem _ _ (Finset.mem_univ x)).trans ?_
  have hn : S128x128.numel = S1x128x128.numel := by decide
  obtain ⟨h1, -⟩ := rect_coord (peer d r) (off3_eq d r) (k0_off3_inb d r) (Shape.reshapeEquiv hn x) d (k0_off2_eq d) (k0_off2_inb d)
  obtain ⟨-, h2⟩ := rect_coord d (k0_off2_eq d) (k0_off2_inb d) (Shape.reshapeEquiv hn x) d (k0_off2_eq d) (k0_off2_inb d)
  exact (congrArg (sentAt m d) h1).trans (recvAt_of m (peer d r) d _ h2).symm

/-- The two reshapes between the load and the store of the own slot undo each other. -/
theorem pay3_eq (v : Vec F S1x128x128 .fp8e4m3) : k0_pay3 v = v := shapeCast_shapeCast v _ _

/-- The slot a device keeps for itself: what it loads from its send buffer is what its receive buffer is to hold there. -/
theorem own_read (d : Dev nD) (y : S1x128x128.Idx) :
    k0_pay3 (sM.view.readAt (Elt F) (ownR d).toLoadRect (sentAt m d)) y = recvAt m d ((ownR d).emb y) := by
  rw [pay3_eq]
  obtain ⟨-, h2⟩ := rect_coord d (k0_off1_eq d) (k0_off1_inb d) y d (k0_off1_eq d) (k0_off1_inb d)
  exact ((recvAt_of m d d _ h2).trans (congrArg (sentAt m d) (toSlot_self d _ h2))).symm
/-- Storing it makes that slot of the receive buffer. -/
theorem kept (d : Dev nD) (fd : (cc0_scratch1 : Ref sig .tc).ty.Contents (Elt F)) (w : Vec F S1x128x128 .fp8e4m3)
    (hw : ∀ y, w y = recvAt m d ((ownR d).emb y)) :
    ∀ i ∈ slotSet d, (rM.access (ownR d)).write (Elt F) fd w Finset.univ i = recvAt m d i := by
  intro i hi
  have hi' : i ∈ (rM.access (ownR d)).set := by
    rw [show (rM.access (ownR d)).set = (ownR d).set from View.set_slice_whole _ _, own_set]; exact hi
  obtain ⟨x, -, rfl⟩ := Finset.mem_map.1 hi'
  exact (View.write_emb_of_mem _ _ (Finset.mem_univ x)).trans (hw x)

/-- What the copy of a row block leaves. -/
theorem copied (c : Dev nD) (i : Fin 8) (fd : (cc0_scratch4 : Ref sig .tc).ty.Contents (Elt F)) :
    ∀ x ∈ rowSet i, (bRows i).view.write (Elt F) fd ((wRows i).view.read (Elt F) (wAt m c)) Finset.univ x = bufAt m c x := by
  intro x hx
  rw [← bRows_set i] at hx
  obtain ⟨y, -, rfl⟩ := Finset.mem_map.1 hx
  refine (View.write_emb_of_mem _ _ (Finset.mem_univ y)).trans ?_
  rfl

end Cert.KernelIdeal.Run

end
-- ==== Proof.IdealSchedule.lean ====
/-
# The schedule

Each device has 71 cells: the barrier's, one for each position's source end (`send`) and arriving end (`recv`), and one
for each row block of the weights. Every cell has one round.

* The barrier cell of `c` has 31 duties of one unit. Duty `r` is paid by `peer c r`, which hands over slot `c` of its receive
  buffer: that is where `c`'s copy at position `r` will land.
* The arriving cell of `c` at position `r` has one duty, paid by the copy that lands there. It hands over the slot,
  holding what `recvAt` says.
* The source cell of `c` at position `r` has one duty, paid by `c`'s own copy. It hands the read slot back.
* The cell of row block `i` has one duty, paid by `c`'s own copy. It hands over the block of the weights' buffer, and the
  block of the weights it read.

At launch a device owes each peer's barrier cell a unit and each peer's arriving cell the credit of one slot. The barrier cells lie
below the arriving ones, and everything else lies below both.
-/
module

public import proofs.«01_k».proof.Proof.IdealSlots

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- The kernel's own semaphores: source ends, arriving ends, row blocks; and with the barrier's. -/
abbrev Own : Type := Fin 31 ⊕ (Fin 31 ⊕ Fin 8)
abbrev Cl : Type := Unit ⊕ Own

abbrev Cl.bar : Cl := .inl ()
abbrev Cl.send (r : Fin 31) : Cl := .inr (.inl r)
abbrev Cl.recv (r : Fin 31) : Cl := .inr (.inr (.inl r))
abbrev Cl.row (i : Fin 8) : Cl := .inr (.inr (.inr i))

/-- A cell's semaphore. -/
abbrev osem : Own → SemLoc sig
  | .inl r => .dma (sendS r)
  | .inr (.inl r) => .dma (recvS r)
  | .inr (.inr i) => .dma (rowsS i)
abbrev csem : Cl → SemLoc sig
  | .inl _ => .reg barS
  | .inr o => osem o

theorem csem_inj : Function.Injective csem := by
  have h : ∀ k k', csem k = csem k' → k = k' := by decide +kernel
  exact fun k k' => h k k'

/-- The cell of device `c` at `k`. -/
abbrev kcell (ck : Dev nD × Cl) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which of the cells a semaphore is. -/
def kind (s : SemLoc sig) : Option Cl := by
  classical exact if h : ∃ k, csem k = s then some h.choose else none
theorem kind_csem (k : Cl) : kind (csem k) = some k := by
  have h : ∃ k', csem k' = csem k := ⟨k, rfl⟩
  unfold kind; rw [dif_pos h]; exact congrArg some (csem_inj h.choose_spec)
theorem kind_none (s : SemLoc sig) (h : ∀ k, csem k ≠ s) : kind s = none := by
  unfold kind; rw [dif_neg fun ⟨k, hk⟩ => h k hk]

/-! ## The resource algebra -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The amounts and the payloads -/

/-- The credit of one slot, and of one row block. -/
def N : ℕ := (dstM 0).view.dmaCredit
def Nw : ℕ := (bRows 0).view.dmaCredit
theorem N_pos : 0 < N := View.dmaCredit_pos _ (by decide)
theorem Nw_pos : 0 < Nw := View.dmaCredit_pos _ (by decide)
theorem dst_credit (d : Dev nD) : (dstM d).view.dmaCredit = N := rfl
theorem src_credit (d : Dev nD) (r : Fin 31) : (srcM d r).view.dmaCredit = N := rfl
theorem rows_credit (i : Fin 8) : (bRows i).view.dmaCredit = Nw := rfl

/-- Slot `j` of device `d`'s send and receive buffer, a row block of its weights and of their buffer, at contents `f`. -/
def sPts (d j : Dev nD) (f : (cc0_scratch0 : Ref sig .tc).ty.Contents (Elt F)) : sProp 𝕄 :=
  ((d : Thread nD τ).loc cc0_scratch0) ↦[slotSet j]{fullShare} f
def rPts (d j : Dev nD) (f : (cc0_scratch1 : Ref sig .tc).ty.Contents (Elt F)) : sProp 𝕄 :=
  ((d : Thread nD τ).loc cc0_scratch1) ↦[slotSet j]{fullShare} f
def wPts (d : Dev nD) (i : Fin 8) (f : (main_arg1 : Ref sig .tc).ty.Contents (Elt F)) : sProp 𝕄 :=
  ((d : Thread nD τ).loc main_arg1) ↦[rowSet i]{fullShare} f
def bPts (d : Dev nD) (i : Fin 8) (f : (cc0_scratch4 : Ref sig .tc).ty.Contents (Elt F)) : sProp 𝕄 :=
  ((d : Thread nD τ).loc cc0_scratch4) ↦[rowSet i]{fullShare} f

omit [FloatOps F] in
instance sPts_storable (d j : Dev nD) (f) : BI.Storable (upEmb : UEmb _ 𝕄) (sPts (F := F) d j f) := by unfold sPts; infer_instance
omit [FloatOps F] in
instance rPts_storable (d j : Dev nD) (f) : BI.Storable (upEmb : UEmb _ 𝕄) (rPts (F := F) d j f) := by unfold rPts; infer_instance
omit [FloatOps F] in
instance wPts_storable (d : Dev nD) (i) (f) : BI.Storable (upEmb : UEmb _ 𝕄) (wPts (F := F) d i f) := by unfold wPts; infer_instance
omit [FloatOps F] in
instance bPts_storable (d : Dev nD) (i) (f) : BI.Storable (upEmb : UEmb _ 𝕄) (bPts (F := F) d i f) := by unfold bPts; infer_instance

variable (m : (ℓ : Loc nD τ sig) → Buf (Elt F) ℓ)

/-- A cell's duties, the amount of each, and what it hands over. -/
def dut : Cl → Finset (Fin 31)
  | .inl _ => Finset.univ
  | .inr _ => {0}
def amt : Cl → ℕ
  | .inl _ => 1
  | .inr (.inl _) => N
  | .inr (.inr (.inl _)) => N
  | .inr (.inr (.inr _)) => Nw
def pay (c : Dev nD) : Cl → Fin 31 → sProp 𝕄
  | .inl _, d => iprop(∃ f, rPts (peer c d) c f)
  | .inr (.inl r), _ => sPts c (peer c r) (sentAt m c)
  | .inr (.inr (.inl r)), _ => rPts c (peer c (rev r)) (recvAt m c)
  | .inr (.inr (.inr i)), _ => iprop(bPts c i (bufAt m c) ∗ wPts c i (wAt m c))

theorem amt_pos (k : Cl) : 0 < amt k := by
  rcases k with _ | _ | _ | _
  · exact Nat.one_pos
  · exact N_pos
  · exact N_pos
  · exact Nw_pos

instance pay_storable (c : Dev nD) (k : Cl) (d : Fin 31) : BI.Storable (upEmb : UEmb _ 𝕄) (pay m c k d) := by
  rcases k with _ | _ | _ | _ <;> dsimp only [pay] <;> infer_instance

/-- One round on every cell. -/
def sched : Rounds.Schedule (GSem nD τ sig) (Fin 31) 𝕄 where
  duties g r := if r = 0 ∧ g.1.2 = .tc then (kind g.2).elim ∅ dut else ∅
  unitless _ := False
  amount g _ _ := (kind g.2).elim 1 amt
  payload g _ d := (kind g.2).elim iprop(emp) fun k => pay m g.1.1 k d
  amount_pos g _ _ _ := by
    cases kind g.2 with
    | none => exact Nat.one_pos
    | some k => exact amt_pos k

instance sched_storable (g : GSem nD τ sig) (r : ℕ) (d : Fin 31) : BI.Storable (upEmb : UEmb _ 𝕄) ((sched (F := F) m).payload g r d) := by
  show BI.Storable upEmb ((kind g.2).elim iprop(emp) fun k => pay m g.1.1 k d)
  cases kind g.2 with
  | none => dsimp only [Option.elim]; infer_instance
  | some k => dsimp only [Option.elim]; infer_instance

section Cells

variable (c : Dev nD) (k : Cl)

theorem duties_cell : (sched m).duties (kcell (c, k)) 0 = dut k := by
  dsimp only [sched]; rw [if_pos ⟨rfl, rfl⟩, kind_csem]; rfl
theorem duties_later (g : GSem nD τ sig) : ∀ r, 1 ≤ r → (sched m).duties g r = ∅ :=
  fun r hr => by dsimp only [sched]; rw [if_neg fun h => by omega]
theorem amount_cell (d : Fin 31) : (sched m).amount (kcell (c, k)) 0 d = amt k := by
  dsimp only [sched]; rw [kind_csem]; rfl
theorem payload_cell (d : Fin 31) : (sched m).payload (kcell (c, k)) 0 d = pay m c k d := by
  dsimp only [sched]; rw [kind_csem]; rfl

theorem expect_cell : (sched m).expect (kcell (c, k)) 0 = (dut k).card * amt k := by
  unfold Schedule.expect Schedule.amountOf
  rw [duties_cell, Finset.sum_congr rfl fun d _ => amount_cell m c k d, Finset.sum_const, smul_eq_mul]

/-- The rest of a round of which nothing is taken. -/
theorem rest_cell : bigSep ((sched m).duties (kcell (c, k)) 0 \ ∅) (fun d => (sched m).payload (kcell (c, k)) 0 d)
    = bigSep (dut k) (pay m c k) := by
  rw [Finset.sdiff_empty, duties_cell]; exact bigSep_congr fun d _ => payload_cell m c k d

end Cells

/-! ## What a device owes, and the levels -/

/-- The sum of `f` along a list, the head the last summand. -/
def dues (f : Fin 31 → CellTallies nD τ sig Unit) : List (Fin 31) → CellTallies nD τ sig Unit
  | [] => 0
  | r :: l => dues f l + f r

theorem dues_pos {f : Fin 31 → CellTallies nD τ sig Unit} {l : List (Fin 31)} {g : GSem nD τ sig} {u : Unit}
    (h : 0 < dues f l g u) : ∃ r, 0 < f r g u := by
  induction l with
  | nil => exact absurd h (Nat.lt_irrefl 0)
  | cons r l ih =>
    rw [dues, Pi.add_apply, Finsupp.add_apply] at h
    by_cases h0 : 0 < dues f l g u
    · exact ih h0
    · exact ⟨r, by omega⟩

theorem dues_apply (f : Fin 31 → CellTallies nD τ sig Unit) (l : List (Fin 31)) (g : GSem nD τ sig) (u : Unit) :
    dues f l g u = (l.map fun r => f r g u).sum := by
  induction l with
  | nil => rfl
  | cons r l ih => rw [dues, Pi.add_apply, Finsupp.add_apply, ih, List.map_cons, List.sum_cons, Nat.add_comm]

/-- The list of positions has each once. -/
theorem pos_univ : (Finset.univ : Finset (Fin 31)) = pos.toFinset := by decide
theorem pos_nodup : pos.Nodup := by decide
theorem rows_univ : (Finset.univ : Finset (Fin 8)) = rows.toFinset := by decide
theorem rows_nodup : rows.Nodup := by decide

theorem dues_pos_apply (f : Fin 31 → CellTallies nD τ sig Unit) (g : GSem nD τ sig) (u : Unit) :
    dues f pos g u = ∑ r, f r g u := by
  rw [dues_apply, pos_univ, List.sum_toFinset _ pos_nodup]

/-- What `c` owes the barrier cell of its `r`-th peer, and the arriving cell there. -/
def barDue (c : Dev nD) (r : Fin 31) : CellTallies nD τ sig Unit := tallyAt (kcell (peer c r, .bar)) () 1
def recvDue (c : Dev nD) (r : Fin 31) : CellTallies nD τ sig Unit := tallyAt (kcell (peer c r, .recv r)) () N
def O₁ (c : Dev nD) : CellTallies nD τ sig Unit := dues (recvDue c) pos
def O₀ (c : Dev nD) : CellTallies nD τ sig Unit := O₁ c + dues (barDue c) pos

def L (g : GSem nD τ sig) : Finset Unit := if g.1.2 = .tc then {()} else ∅
def clLv : Cl → ℕ
  | .inl _ => 1
  | .inr (.inr (.inl _)) => 2
  | _ => 0
def lv (g : GSem nD τ sig) (_ : Unit) : ℕ := (kind g.2).elim 0 clLv

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cl) (u : Unit) : lv (kcell (c, k)) u = clLv k := by
  dsimp only [lv]; rw [kind_csem]; rfl

theorem tally_pos {g₀ g : GSem nD τ sig} {n : ℕ} {u : Unit} (h : 0 < (tallyAt g₀ () n : CellTallies nD τ sig Unit) g u) : g = g₀ := by
  by_contra hn
  rw [tallyAt_apply, if_neg fun h' => hn h'.1] at h
  exact Nat.lt_irrefl 0 h

theorem O₁_pos {c : Dev nD} {g : GSem nD τ sig} {u : Unit} (h : 0 < O₁ c g u) : ∃ r, g = kcell (peer c r, .recv r) :=
  (dues_pos h).imp fun _ hr => tally_pos hr
theorem O₀_pos {c : Dev nD} {g : GSem nD τ sig} {u : Unit} (h : 0 < O₀ c g u) :
    ∃ d k, g = kcell (d, k) ∧ 1 ≤ clLv k := by
  unfold O₀ at h
  rw [Pi.add_apply, Finsupp.add_apply] at h
  by_cases h1 : 0 < O₁ c g u
  · obtain ⟨r, hr⟩ := O₁_pos h1
    exact ⟨_, _, hr, (by show 1 ≤ 2; decide)⟩
  · obtain ⟨r, hr⟩ := dues_pos (f := barDue c) (l := pos) (g := g) (u := u) (by omega)
    exact ⟨_, _, tally_pos hr, (by show 1 ≤ 1; decide)⟩

omit [FloatOps F] in
/-- A staging semaphore lies below everything a device ever owes. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; rw [L_tc]; exact Finset.mem_singleton_self _)
      (fun p hp => by rw [Finset.mem_singleton.mp hp]; dsimp only [lv]; rw [kind_none _ hq]; exact Nat.le_refl 0)
      (fun g u hg => by obtain ⟨d, k, rfl, hk⟩ := O₀_pos hg; rw [lv_cell]; exact hk)
  · rw [MayWait_zero]; iintro -; iempintro

omit [FloatOps F] in
/-- At its barrier wait a device owes arriving cells only. -/
theorem mayWait_bar (c : Dev nD) : (levAts L lv : sProp 𝕄) ⊢ MayWait (c : Thread nD τ) (csem .bar) () (O₁ c) :=
  MayOwe.of_cut (L := L) (lev := lv) 1 (fun p hp => by rw [Finset.mem_singleton.mp hp, L_tc]; exact Finset.mem_singleton_self _)
    (fun g u hg => by obtain ⟨r, rfl⟩ := O₁_pos hg; rw [L_tc]; exact Finset.mem_singleton_self _)
    (fun p hp => by rw [Finset.mem_singleton.mp hp]; exact Nat.le_of_eq (lv_cell c .bar ()))
    (fun g u hg => by obtain ⟨r, rfl⟩ := O₁_pos hg; rw [lv_cell]; show 1 < 2; decide)

end Cert.KernelIdeal.Run

end
-- ==== Proof.IdealLoops.lean ====
/-
# One pass of each loop

For each loop of the body: what one pass takes and what it gives back, over the rules for signals, copies, waits, loads and
stores; and, by induction over the list a loop runs along, what the whole loop takes and gives.
-/
module

public import proofs.«01_k».proof.Proof.IdealSchedule
public import Idealize.ShloMosaic.Lib.Pipeline.BigSepL

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` ends in `Q`. -/
abbrev exec (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loops -/

/-- A loop of single operations: `Inv` speaks of what is left of the list, `Pre a` is what the pass at `a` uses up and
    `Post a` what it leaves. -/
theorem each_exec {A α : Type} (c : Dev nD) (Q : α → sProp 𝕄) (R : sProp 𝕄) [BI.Persistent R] (Inv : List A → sProp 𝕄) (Pre Post : A → sProp 𝕄)
    (f : A → TpuEff nD τ sig (Elt F) Λ₀ .tc PUnit)
    (step : ∀ a l (k : PUnit → Prog (TpuEff nD τ sig (Elt F) Λ₀ .tc) α),
      iprop(R ∗ Inv (a :: l) ∗ Pre a) ⊢ iprop(((Inv l ∗ Post a) -∗ exec c (k ⟨⟩) Q) -∗ exec c (.op (f a) k) Q)) :
    ∀ (l : List A) (k : Prog (TpuEff nD τ sig (Elt F) Λ₀ .tc) α),
      iprop(R ∗ Inv l ∗ bigSepL l Pre) ⊢ iprop(((Inv [] ∗ bigSepL l Post) -∗ exec c k Q) -∗ exec c (each l f k) Q)
  | [], k => by
    rw [bigSepL_nil, bigSepL_nil]
    iintro ⟨-, HI, -⟩ Hk
    iapply Hk
    isplitl [HI]; · iexact HI
    iempintro
  | a :: l, k => by
    rw [bigSepL_cons', bigSepL_cons']
    iintro ⟨#HR, HI, Ha, Hl⟩ Hk
    iapply (step a l fun _ => each l f k) $$ [HI Ha]
    · isplitr; · iexact HR
      isplitl [HI] <;> iassumption
    iintro ⟨HI, Hp⟩
    iapply (each_exec c Q R Inv Pre Post f step l k) $$ [HI Hl]
    · isplitr; · iexact HR
      isplitl [HI] <;> iassumption
    iintro ⟨HI, Hps⟩
    iapply Hk
    isplitl [HI]; · iexact HI
    isplitl [Hp] <;> iassumption

/-- The same of a loop that carries a value: a pass at `a` takes `b` to `val b a`. -/
theorem carry_exec {A B α : Type} (c : Dev nD) (Q : α → sProp 𝕄) (R : sProp 𝕄) [BI.Persistent R] (Inv : sProp 𝕄) (Pre Post : A → sProp 𝕄)
    (f : A → B → (B → Prog (TpuEff nD τ sig (Elt F) Λ₀ .tc) α) → Prog (TpuEff nD τ sig (Elt F) Λ₀ .tc) α) (val : B → A → B)
    (step : ∀ a b (k : B → Prog (TpuEff nD τ sig (Elt F) Λ₀ .tc) α),
      iprop(R ∗ Inv ∗ Pre a) ⊢ iprop(((Inv ∗ Post a) -∗ exec c (k (val b a)) Q) -∗ exec c (f a b k) Q)) :
    ∀ (l : List A) (b : B) (k : B → Prog (TpuEff nD τ sig (Elt F) Λ₀ .tc) α),
      iprop(R ∗ Inv ∗ bigSepL l Pre) ⊢ iprop(((Inv ∗ bigSepL l Post) -∗ exec c (k (l.foldl val b)) Q) -∗ exec c (carry f l b k) Q)
  | [], b, k => by
    rw [bigSepL_nil, bigSepL_nil]
    iintro ⟨-, HI, -⟩ Hk
    iapply Hk
    isplitl [HI]; · iexact HI
    iempintro
  | a :: l, b, k => by
    rw [bigSepL_cons', bigSepL_cons']
    iintro ⟨#HR, HI, Ha, Hl⟩ Hk
    iapply (step a b fun b' => carry f l b' k) $$ [HI Ha]
    · isplitr; · iexact HR
      isplitl [HI] <;> iassumption
    iintro ⟨HI, Hp⟩
    iapply (carry_exec c Q R Inv Pre Post f val step l (val b a) k) $$ [HI Hl]
    · isplitr; · iexact HR
      isplitl [HI] <;> iassumption
    iintro ⟨HI, Hps⟩
    iapply Hk
    isplitl [HI]; · iexact HI
    isplitl [Hp] <;> iassumption

/-! ## What every device knows -/

variable (m : (ℓ : Loc nD τ sig) → Buf (Elt F) ℓ) (K : Dev nD × Cl → ℕ)

/-- Every cell's invariant, at the names `K`, and that its first round is reached. -/
def records : sProp 𝕄 :=
  iprop((bigSep Finset.univ fun ck : Dev nD × Cl => cellInv ER (sched m) (K ck) (kcell ck))
    ∗ bigSep Finset.univ fun ck : Dev nD × Cl => reached ER (kcell ck) 0)

instance records_persistent : BI.Persistent (records m K) := by unfold records; infer_instance

theorem records_at (ck : Dev nD × Cl) : records m K ⊢ iprop(cellInv ER (sched m) (K ck) (kcell ck) ∗ reached ER (kcell ck) 0) :=
  BIBase.Entails.trans (sep_mono_left (bigSep_elim (Finset.mem_univ ck))) (sep_mono_right (bigSep_elim (Finset.mem_univ ck)))

/-- What a copy adds to the semaphore it completes on. -/
theorem dst_amount (d : Dev nD) (q : DmaSem sig) : (dstM d).view.amount (.dma q) = N := dst_credit d
theorem rows_amount (i : Fin 8) (q : DmaSem sig) : (bRows i).view.amount (.dma q) = Nw := rows_credit i

/-! ## The pieces of a buffer through their memrefs -/

omit [FloatOps F] in
theorem sPts_eq (d : Dev nD) (r : Fin 31) (f) :
    sPts (F := F) d (peer d r) f = (((srcM d r).view.loc (d : Thread nD τ)) ↦[(srcM d r).view.set]{fullShare} f) :=
  congrArg (fun S => (((d : Thread nD τ).loc cc0_scratch0) ↦[S]{fullShare} f : sProp 𝕄)) (srcM_set d r).symm
omit [FloatOps F] in
theorem rPts_eq (e d : Dev nD) (f) :
    rPts (F := F) e d f = (((dstM d).view.loc (e : Thread nD τ)) ↦[(dstM d).view.set]{fullShare} f) :=
  congrArg (fun S => (((e : Thread nD τ).loc cc0_scratch1) ↦[S]{fullShare} f : sProp 𝕄)) (dstM_set d).symm
omit [FloatOps F] in
theorem wPts_eq (d : Dev nD) (i : Fin 8) (f) :
    wPts (F := F) d i f = (((wRows i).view.loc (d : Thread nD τ)) ↦[(wRows i).view.set]{fullShare} f) :=
  congrArg (fun S => (((d : Thread nD τ).loc main_arg1) ↦[S]{fullShare} f : sProp 𝕄)) (wRows_set i).symm
omit [FloatOps F] in
theorem bPts_eq (d : Dev nD) (i : Fin 8) (f) :
    bPts (F := F) d i f = (((bRows i).view.loc (d : Thread nD τ)) ↦[(bRows i).view.set]{fullShare} f) :=
  congrArg (fun S => (((d : Thread nD τ).loc cc0_scratch4) ↦[S]{fullShare} f : sProp 𝕄)) (bRows_set i).symm

theorem rPts_landed (d : Dev nD) (r : Fin 31) (fd) :
    rPts (F := F) (peer d r) d ((dstM d).view.write (Elt F) fd ((srcM d r).view.read (Elt F) (sentAt m d)) Finset.univ)
      = rPts (peer d r) d (recvAt m (peer d r)) := pointsTo_congr (landed m d r fd)
theorem bPts_copied (c : Dev nD) (i : Fin 8) (fd) :
    bPts (F := F) c i ((bRows i).view.write (Elt F) fd ((wRows i).view.read (Elt F) (wAt m c)) Finset.univ)
      = bPts c i (bufAt m c) := pointsTo_congr (copied m c i fd)

/-- What a copy at position `r` hands the arriving cell of the device it goes to. -/
theorem payload_recv (d : Dev nD) (r : Fin 31) :
    (sched m).payload (kcell (peer d r, .recv r)) 0 0 = rPts (peer d r) d (recvAt m (peer d r)) := by
  rw [payload_cell m (peer d r) (.recv r)]; dsimp only [pay]; rw [peer_rev]

/-! ## One pass -/

variable (c : Dev nD) {α : Type} (Q : α → sProp (MT nD τ sig Unit (Elt F) ℕ UU ℕ))

/-- A signal to the barrier cell of `peer c r` hands over the slot that device's copy is to land in. -/
theorem sig_step (O : CellTallies nD τ sig Unit) (W : Waits sig Unit) (r : Fin 31) (l : List (Fin 31)) (k : PUnit → Prog (TpuEff nD τ sig (Elt F) Λ₀ .tc) α) :
    iprop(records m K ∗ owes (c : Thread nD τ) (O + dues (barDue c) (r :: l)) W
        ∗ (dutyTok ER (kcell (peer c r, .bar)) 0 (rev r) ∗ ∃ f, rPts c (peer c r) f))
      ⊢ iprop(((owes (c : Thread nD τ) (O + dues (barDue c) l) W ∗ emp) -∗ exec c (k ⟨⟩) Q) -∗ exec c (.op (sigOp c r) k) Q) := by
  unfold sigOp; rw [sigDev_eq]
  iintro ⟨#HR, HO, Ht, Hp⟩ Hk
  ihave ⟨#HI, #Hr⟩ := (records_at m K (peer c r, .bar)) $$ HR
  iapply (Rounds.wp_signal 𝒱₀ ER (sched m) (c : Thread nD τ) none (dst := (peer c r : Thread nD τ)) (κ := K (peer c r, .bar)) (r := 0)
      (d := rev r) (by rw [duties_cell m (peer c r) .bar]; exact Finset.mem_univ _) (amount_cell m (peer c r) .bar (rev r)) () (O + dues (barDue c) l)
      (add_assoc O (dues (barDue c) l) (barDue c r)).symm) $$ [HO Ht Hp]
  · isplitr; · iexact HI
    isplitl [HO]; · iexact HO
    isplitl [Ht]; · iexact Ht
    isplitl [Hp]
    · rw [payload_cell m (peer c r) .bar]; dsimp only [pay]; rw [peer_rev]; iexact Hp
    iexact Hr
  iintro HO
  iapply Hk
  isplitl [HO]; · iexact HO
  iempintro

/-- The copy of a row block of the weights. -/
theorem rows_step (i : Fin 8) (k : PUnit → Prog (TpuEff nD τ sig (Elt F) Λ₀ .tc) α) :
    iprop(records m K ∗ emp ∗ (dutyTok ER (kcell (c, .row i)) 0 0 ∗ (∃ f, bPts c i f) ∗ wPts c i (wAt m c)))
      ⊢ iprop(((emp ∗ cred (tallyAt (kcell (c, .row i)) () Nw)) -∗ exec c (k ⟨⟩) Q) -∗ exec c (.op (rowsOp i) k) Q) := by
  unfold rowsOp
  iintro ⟨#HR, -, Ht, ⟨%f, Hb⟩, Hw⟩ Hk
  ihave ⟨#HI, #Hr⟩ := (records_at m K (c, .row i)) $$ HR
  have hp := Entails.of_eq ((congrArg₂ BI.sep ((bPts_eq c i _).symm.trans (bPts_copied m c i f)) (wPts_eq c i (wAt m c)).symm).trans
    (payload_cell m c (.row i) 0).symm)
  ihave Hb := (Entails.of_eq (bPts_eq c i f)) $$ Hb
  ihave Hw := (Entails.of_eq (wPts_eq c i (wAt m c))) $$ Hw
  iapply (Rounds.wp_copy_pointsTo 𝒱₀ ER (sched m) (c : Thread nD τ) none (src := wRows i) (dst := bRows i) (sem := .dma (rowsS i)) (q := fullShare) (fs := wAt m c) (fd := f) (κ := K (c, .row i)) (r := 0) (d := 0)
      (by rw [duties_cell m c (.row i)]; exact Finset.mem_singleton_self _) () Nw (rows_amount i (rowsS i)) (amount_cell m c (.row i) 0)
      hp) $$ [Ht Hb Hw]
  · isplitr; · iexact HI
    isplitl [Hw]; · iexact Hw
    isplitl [Hb]; · iexact Hb
    isplitl [Ht]; · iexact Ht
    iexact Hr
  iintro HC
  iapply Hk
  isplitr; · iempintro
  iexact HC

/-- A remote copy to `n`, the device at position `r`. -/
theorem send_step_to (W : Waits sig Unit) (r : Fin 31) (l : List (Fin 31)) (n : Dev nD) (hn : n = peer c r)
    {hsc : (dstM c : Memref sig (Dev.tc n : Thread nD τ).2.kind .vmem S128x128 .fp8e4m3).view.ref.isScScratch = false}
    {hsrc : (srcM c r).view.WordExact} {hdst : (dstM c).view.WordExact}
    {hsem : DmaTarget.Typed .vmem (.dma (recvS r)) (.remote (Dev.tc n : Thread nD τ) (dstM c) (.dma (sendS r)) hsc)}
    (k : PUnit → Prog (TpuEff nD τ sig (Elt F) Λ₀ .tc) α) :
    iprop(records m K ∗ owes (c : Thread nD τ) (dues (recvDue c) (r :: l)) W
        ∗ (dutyTok ER (kcell (c, .send r)) 0 0 ∗ dutyTok ER (kcell (peer c r, .recv r)) 0 0
          ∗ sPts c (peer c r) (sentAt m c) ∗ ∃ f, rPts (peer c r) c f))
      ⊢ iprop(((owes (c : Thread nD τ) (dues (recvDue c) l) W ∗ cred (tallyAt (kcell (c, .send r)) () N)) -∗ exec c (k ⟨⟩) Q)
        -∗ exec c (.op (.enqueueDma (srcM c r) (.remote (Dev.tc n : Thread nD τ) (dstM c) (.dma (sendS r)) hsc) (.dma (recvS r)) hsrc hdst hsem) k) Q) := by
  subst hn
  iintro ⟨#HR, HO, Ht₁, Ht₂, Hs, ⟨%f, Hd⟩⟩ Hk
  have hp₁ := Entails.of_eq ((sPts_eq c r (sentAt m c)).symm.trans (payload_cell m c (.send r) 0).symm)
  have hp₂ := Entails.of_eq ((rPts_eq (peer c r) c _).symm.trans ((rPts_landed m c r f).trans (payload_recv m c r).symm))
  ihave ⟨#HI₁, #Hr₁⟩ := (records_at m K (c, .send r)) $$ HR
  ihave ⟨#HI₂, #Hr₂⟩ := (records_at m K (peer c r, .recv r)) $$ HR
  ihave Hs := (Entails.of_eq (sPts_eq c r (sentAt m c))) $$ Hs
  ihave Hd := (Entails.of_eq (rPts_eq (peer c r) c f)) $$ Hd
  iapply (Rounds.wp_send_pointsTo 𝒱₀ ER (sched m) (c : Thread nD τ) none (κ₁ := K (c, .send r)) (κ₂ := K (peer c r, .recv r))
      (c' := (peer c r : Thread nD τ)) (src := srcM c r) (dst := dstM c) (sS := .dma (sendS r)) (sem := .dma (recvS r)) (hsc := hsc) (q := fullShare) (fs := sentAt m c) (fd := f) (r₁ := 0) (r₂ := 0) (d₁ := 0) (d₂ := 0)
      (by rw [duties_cell m c (.send r)]; exact Finset.mem_singleton_self _)
      (by rw [duties_cell m (peer c r) (.recv r)]; exact Finset.mem_singleton_self _)
      () () N (dst_amount c (recvS r)) (amount_cell m c (.send r) 0) (amount_cell m (peer c r) (.recv r) 0) (dues (recvDue c) l) rfl (W := W)
      (hp₁) (hp₂)) $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨HC, HO⟩
  iapply Hk
  isplitl [HO] <;> iassumption

theorem send_step (W : Waits sig Unit) (r : Fin 31) (l : List (Fin 31)) (k : PUnit → Prog (TpuEff nD τ sig (Elt F) Λ₀ .tc) α) :
    iprop(records m K ∗ owes (c : Thread nD τ) (dues (recvDue c) (r :: l)) W
        ∗ (dutyTok ER (kcell (c, .send r)) 0 0 ∗ dutyTok ER (kcell (peer c r, .recv r)) 0 0
          ∗ sPts c (peer c r) (sentAt m c) ∗ ∃ f, rPts (peer c r) c f))
      ⊢ iprop(((owes (c : Thread nD τ) (dues (recvDue c) l) W ∗ cred (tallyAt (kcell (c, .send r)) () N)) -∗ exec c (k ⟨⟩) Q)
        -∗ exec c (.op (sendOp c r) k) Q) :=
  send_step_to m K c Q W r l (sendDev c r) (sendDev_eq c r) k

/-- A wait for a whole round of one of the device's cells, owing nothing: the round's payloads come with it. -/
theorem wait_step (cl : Cl) {w : TpuEff nD τ sig (Elt F) Λ₀ .tc PUnit} {n : ℕ}
    (hw : ∀ Kt : PUnit → sProp 𝕄, wpE (defs₀ (F := F)) 𝒱₀ (c : Thread nD τ) none Set.univ w Kt = waitSpec (c : Thread nD τ) Set.univ (csem cl) n Kt)
    (hn : n = (dut cl).card * amt cl) (k : PUnit → Prog (TpuEff nD τ sig (Elt F) Λ₀ .tc) α) :
    iprop(records m K ∗ (∃ W, owes (c : Thread nD τ) 0 W) ∗ (atPos ER (kcell (c, cl)) 0 ∅ 0 ∗ cred (tallyAt (kcell (c, cl)) () n)))
      ⊢ iprop((((∃ W, owes (c : Thread nD τ) 0 W) ∗ (atPos ER (kcell (c, cl)) 1 ∅ 0 ∗ bigSep (dut cl) (pay m c cl))) -∗ exec c (k ⟨⟩) Q)
        -∗ exec c (.op w k) Q) := by
  iintro ⟨#HR, ⟨%W, HO⟩, Ha, HC⟩ Hk
  ihave ⟨#HI, #Hr⟩ := (records_at m K (c, cl)) $$ HR
  iapply (Rounds.wp_wait_rest_token 𝒱₀ ER (sched m) (c : Thread nD τ) none (κ := K (c, cl)) hw (Set.mem_univ _) () (O := 0) (W := W) (R := 0) (m := 0) (T := ∅)
      (by rw [Nat.zero_add, hn]; exact (expect_cell m c cl).symm)) $$ [HO Ha HC]
  · isplitr; · iexact HI
    isplitl [HC]; · iexact HC
    isplitl [HO]; · iexact HO
    isplitr; · rw [MayWait_zero]; iempintro
    iexact Ha
  iintro ⟨HO, Ha, -, Hp⟩
  ihave Hp := (Entails.of_eq (rest_cell m c cl)) $$ Hp
  iapply Hk
  isplitl [HO]; · iexists _; iexact HO
  isplitl [Ha] <;> iassumption

/-- The wait for the block arriving at position `r`. -/
theorem recv_step (r : Fin 31) (k : PUnit → Prog (TpuEff nD τ sig (Elt F) Λ₀ .tc) α) :
    iprop(records m K ∗ (∃ W, owes (c : Thread nD τ) 0 W) ∗ (atPos ER (kcell (c, .recv r)) 0 ∅ 0 ∗ cred (tallyAt (kcell (c, .recv r)) () N)))
      ⊢ iprop((((∃ W, owes (c : Thread nD τ) 0 W) ∗ (atPos ER (kcell (c, .recv r)) 1 ∅ 0 ∗ rPts c (peer c (rev r)) (recvAt m c))) -∗ exec c (k ⟨⟩) Q)
        -∗ exec c (.op (recvWaitOp c r) k) Q) := by
  have h := wait_step m K c Q (.recv r) (w := recvWaitOp c r) (n := N) (wpE_waitDma2_eq 𝒱₀ (c : Thread nD τ) none Set.univ (src := srcM c r) (dst := dstM c) (hsrc := srcM_wordExact c r) (hdst := dstM_wordExact c))
    (Nat.one_mul _).symm k
  rw [show bigSep (dut (.recv r)) (pay m c (.recv r)) = rPts c (peer c (rev r)) (recvAt m c) from bigSep_singleton] at h
  exact h

/-- The wait for the block that left at position `r`. -/
theorem sent_step (r : Fin 31) (k : PUnit → Prog (TpuEff nD τ sig (Elt F) Λ₀ .tc) α) :
    iprop(records m K ∗ (∃ W, owes (c : Thread nD τ) 0 W) ∗ (atPos ER (kcell (c, .send r)) 0 ∅ 0 ∗ cred (tallyAt (kcell (c, .send r)) () N)))
      ⊢ iprop((((∃ W, owes (c : Thread nD τ) 0 W) ∗ (atPos ER (kcell (c, .send r)) 1 ∅ 0 ∗ sPts c (peer c r) (sentAt m c))) -∗ exec c (k ⟨⟩) Q)
        -∗ exec c (.op (sendWaitOp c r) k) Q) := by
  have h := wait_step m K c Q (.send r) (w := sendWaitOp c r) (n := N) (wpE_waitDma2_eq 𝒱₀ (c : Thread nD τ) none Set.univ (src := dstM c) (dst := srcM c r) (hsrc := dstM_wordExact c) (hdst := srcM_wordExact c r))
    (Nat.one_mul _).symm k
  rw [show bigSep (dut (.send r)) (pay m c (.send r)) = sPts c (peer c r) (sentAt m c) from bigSep_singleton] at h
  exact h

/-- The receive buffer, held whole at what arrives. -/
def rAll : sProp 𝕄 := ((c : Thread nD τ).loc cc0_scratch1) ↦{fullShare} (recvAt m c : Buf (Elt F) ((c : Thread nD τ).loc cc0_scratch1))

/-- One product of row block `i`. -/
theorem prod_step (i : Fin 8) (q : Fin 4) (a : FVec F S128x2048 .f32) (k : FVec F S128x2048 .f32 → Prog (TpuEff nD τ sig (Elt F) Λ₀ .tc) α) :
    iprop(records m K ∗ (rAll m c ∗ bPts c i (bufAt m c)) ∗ emp)
      ⊢ iprop((((rAll m c ∗ bPts c i (bufAt m c)) ∗ emp) -∗ exec c (k (accStep m c (blk i q) a)) Q) -∗ exec c (prodStep (blk i q) a k) Q) := by
  unfold prodStep rAll bPts
  iintro ⟨-, ⟨Hr, Hb⟩, -⟩ Hk
  iapply (wp_load 𝒱₀ (c : Thread nD τ) none Set.univ (m := rM) (Finset.subset_univ _)) $$ Hr; iintro Hr
  iapply (wp_load 𝒱₀ (c : Thread nD τ) none Set.univ (m := bM) (S := rowSet i)
    (fun x hx => by obtain ⟨y, hy, rfl⟩ := Finset.mem_map.1 hx; exact blockR_subset i q hy)) $$ Hb; iintro Hb
  iapply Hk
  isplitl [Hr Hb]
  · isplitl [Hr] <;> iassumption
  iempintro

/-- A row block: its wait, and its four products. -/
theorem row_step (i : Fin 8) (a : FVec F S128x2048 .f32) (k : FVec F S128x2048 .f32 → Prog (TpuEff nD τ sig (Elt F) Λ₀ .tc) α) :
    iprop(records m K ∗ ((∃ W, owes (c : Thread nD τ) 0 W) ∗ rAll m c) ∗ (atPos ER (kcell (c, .row i)) 0 ∅ 0 ∗ cred (tallyAt (kcell (c, .row i)) () Nw)))
      ⊢ iprop(((((∃ W, owes (c : Thread nD τ) 0 W) ∗ rAll m c) ∗ (atPos ER (kcell (c, .row i)) 1 ∅ 0 ∗ bPts c i (bufAt m c) ∗ wPts c i (wAt m c)))
          -∗ exec c (k (accRow m c i a)) Q) -∗ exec c (rowStep i a k) Q) := by
  have h (k' : PUnit → Prog (TpuEff nD τ sig (Elt F) Λ₀ .tc) α) := wait_step m K c Q (.row i)
    (w := .waitDma2 (rowsS i) (wRows i) (bRows i) (View.wordExact_bits rfl) (View.wordExact_bits rfl)) (n := Nw)
    (wpE_waitDma2_eq 𝒱₀ (c : Thread nD τ) none Set.univ) (Nat.one_mul _).symm k'
  rw [show bigSep (dut (.row i)) (pay m c (.row i)) = iprop(bPts c i (bufAt m c) ∗ wPts c i (wAt m c)) from bigSep_singleton] at h
  unfold rowStep
  iintro ⟨#HR, ⟨HO, Hr⟩, Ha, HC⟩ Hk
  iapply (h _) $$ [HO Ha HC]
  · isplitr; · iexact HR
    isplitl [HO]; · iexact HO
    isplitl [Ha] <;> iassumption
  iintro ⟨HO, Ha, Hb, Hw⟩
  iapply (carry_exec c Q (records m K) iprop(rAll m c ∗ bPts c i (bufAt m c)) (fun _ => iprop(emp)) (fun _ => iprop(emp)) (fun q => prodStep (blk i q))
    (fun a q => accStep m c (blk i q) a) (fun q a k => prod_step m K c Q i q a k) sub a k) $$ [Hr Hb]
  · isplitr; · iexact HR
    isplitl [Hr Hb]
    · isplitl [Hr] <;> iassumption
    simp only [bigSepL_cons', bigSepL_nil]
    isplitr; · iempintro
    isplitr; · iempintro
    isplitr; · iempintro
    isplitr; · iempintro
    iempintro
  iintro ⟨⟨Hr, Hb⟩, -⟩
  iapply Hk
  isplitl [HO Hr]
  · isplitl [HO] <;> iassumption
  isplitl [Ha]; · iexact Ha
  isplitl [Hb] <;> iassumption

end Cert.KernelIdeal.Run

end
-- ==== Proof.IdealBody.lean ====
/-
# The body of one device

What a device's body starts from and what it ends with, and the proof that it gets there: signals and copies of the weights,
the store of the send buffer and of the own slot, the wait for the peers' signals, the remote copies, the waits for what
arrives, the row blocks' products, the scaled store, and the waits for what left.
-/
module

public import proofs.«01_k».proof.Proof.IdealLoops
public import Idealize.ShloMosaic.Lib.Rounds.Family

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## Loops over all positions and all row blocks -/

section Whole

variable (c : Dev nD) {α : Type} (Q : α → sProp (MT nD τ sig Unit (Elt F) ℕ UU ℕ)) (R : sProp (MT nD τ sig Unit (Elt F) ℕ UU ℕ)) [BI.Persistent R]

theorem each_pos (Inv : List (Fin 31) → sProp 𝕄) (Pre Post : Fin 31 → sProp 𝕄) (f : Fin 31 → TpuEff nD τ sig (Elt F) Λ₀ .tc PUnit)
    (step : ∀ r l (k : PUnit → Prog (TpuEff nD τ sig (Elt F) Λ₀ .tc) α),
      iprop(R ∗ Inv (r :: l) ∗ Pre r) ⊢ iprop(((Inv l ∗ Post r) -∗ exec c (k ⟨⟩) Q) -∗ exec c (.op (f r) k) Q))
    (k : Prog (TpuEff nD τ sig (Elt F) Λ₀ .tc) α) :
    iprop(R ∗ Inv pos ∗ bigSep Finset.univ Pre)
      ⊢ iprop(((Inv [] ∗ bigSep Finset.univ Post) -∗ exec c k Q) -∗ exec c (each pos f k) Q) := by
  rw [bigSep_univ_eq_bigSepL pos pos_univ pos_nodup, bigSep_univ_eq_bigSepL pos pos_univ pos_nodup]
  exact each_exec c Q R Inv Pre Post f step pos k

theorem each_row (Inv : List (Fin 8) → sProp 𝕄) (Pre Post : Fin 8 → sProp 𝕄) (f : Fin 8 → TpuEff nD τ sig (Elt F) Λ₀ .tc PUnit)
    (step : ∀ r l (k : PUnit → Prog (TpuEff nD τ sig (Elt F) Λ₀ .tc) α),
      iprop(R ∗ Inv (r :: l) ∗ Pre r) ⊢ iprop(((Inv l ∗ Post r) -∗ exec c (k ⟨⟩) Q) -∗ exec c (.op (f r) k) Q))
    (k : Prog (TpuEff nD τ sig (Elt F) Λ₀ .tc) α) :
    iprop(R ∗ Inv rows ∗ bigSep Finset.univ Pre)
      ⊢ iprop(((Inv [] ∗ bigSep Finset.univ Post) -∗ exec c k Q) -∗ exec c (each rows f k) Q) := by
  rw [bigSep_univ_eq_bigSepL rows rows_univ rows_nodup, bigSep_univ_eq_bigSepL rows rows_univ rows_nodup]
  exact each_exec c Q R Inv Pre Post f step rows k

theorem carry_row {B : Type} (Inv : sProp 𝕄) (Pre Post : Fin 8 → sProp 𝕄)
    (f : Fin 8 → B → (B → Prog (TpuEff nD τ sig (Elt F) Λ₀ .tc) α) → Prog (TpuEff nD τ sig (Elt F) Λ₀ .tc) α) (val : B → Fin 8 → B)
    (step : ∀ a b (k : B → Prog (TpuEff nD τ sig (Elt F) Λ₀ .tc) α),
      iprop(R ∗ Inv ∗ Pre a) ⊢ iprop(((Inv ∗ Post a) -∗ exec c (k (val b a)) Q) -∗ exec c (f a b k) Q))
    (b : B) (k : B → Prog (TpuEff nD τ sig (Elt F) Λ₀ .tc) α) :
    iprop(R ∗ Inv ∗ bigSep Finset.univ Pre)
      ⊢ iprop(((Inv ∗ bigSep Finset.univ Post) -∗ exec c (k (rows.foldl val b)) Q) -∗ exec c (carry f rows b k) Q) := by
  rw [bigSep_univ_eq_bigSepL rows rows_univ rows_nodup, bigSep_univ_eq_bigSepL rows rows_univ rows_nodup]
  exact carry_exec c Q R Inv Pre Post f val step rows b k

end Whole

/-! ## Buffers in pieces -/

/-- The whole of a buffer of device `c` at contents `f`. -/
abbrev full (c : Dev nD) (b : Ref sig .tc) (f : b.ty.Contents (Elt F)) : sProp 𝕄 :=
  ((c : Thread nD τ).loc b) ↦{fullShare} (f : Buf (Elt F) ((c : Thread nD τ).loc b))

omit [FloatOps F] in
/-- A send buffer is the own slot and the peers' slots. -/
theorem s_split (c : Dev nD) (f) : full (F := F) c cc0_scratch0 f = iprop(sPts c c f ∗ bigSep Finset.univ fun r => sPts c (peer c r) f) := by
  unfold full; rw [Ring.pointsTo_blocks (ℓ := (c : Thread nD τ).loc cc0_scratch0) slotSet slotSet_disjoint slotSet_cover]; exact sep_peers c _
omit [FloatOps F] in
/-- So is a receive buffer. -/
theorem r_split (c : Dev nD) (f) : full (F := F) c cc0_scratch1 f = iprop(rPts c c f ∗ bigSep Finset.univ fun r => rPts c (peer c r) f) := by
  unfold full; rw [Ring.pointsTo_blocks (ℓ := (c : Thread nD τ).loc cc0_scratch1) slotSet slotSet_disjoint slotSet_cover]; exact sep_peers c _
omit [FloatOps F] in
/-- The weights and their buffer are their row blocks. -/
theorem w_split (c : Dev nD) (f) : full (F := F) c main_arg1 f = bigSep Finset.univ fun i => wPts c i f := by
  unfold full; rw [Ring.pointsTo_blocks (ℓ := (c : Thread nD τ).loc main_arg1) rowSet rowSet_disjoint rowSet_cover]; rfl
omit [FloatOps F] in
theorem b_split (c : Dev nD) (f) : full (F := F) c cc0_scratch4 f = bigSep Finset.univ fun i => bPts c i f := by
  unfold full; rw [Ring.pointsTo_blocks (ℓ := (c : Thread nD τ).loc cc0_scratch4) rowSet rowSet_disjoint rowSet_cover]; rfl

omit [FloatOps F] in
/-- The pieces, each at some contents. -/
theorem r_some (c : Dev nD) (f) : (bigSep Finset.univ fun r => rPts (F := F) c (peer c r) f) ⊢ bigSep Finset.univ fun r => iprop(∃ f, rPts (F := F) c (peer c r) f) :=
  bigSep_mono fun r _ => (show rPts (F := F) c (peer c r) f ⊢ iprop(∃ f, rPts (F := F) c (peer c r) f) from by iintro H; iexists f; iexact H)
omit [FloatOps F] in
theorem b_some (c : Dev nD) (f) : (bigSep Finset.univ fun i => bPts (F := F) c i f) ⊢ bigSep Finset.univ fun i => iprop(∃ f, bPts (F := F) c i f) :=
  bigSep_mono fun i _ => (show bPts (F := F) c i f ⊢ iprop(∃ f, bPts (F := F) c i f) from by iintro H; iexists f; iexact H)

omit [FloatOps F] in
/-- A separating conjunction over the positions may be taken in the other order. -/
theorem sep_rev (Φ : Fin 31 → sProp 𝕄) : bigSep Finset.univ Φ = bigSep Finset.univ fun r => Φ (rev r) :=
  bigSep_univ_equiv ⟨rev, rev, rev_rev, rev_rev⟩ Φ

omit [FloatOps F] in
theorem sep_cl (Φ : Cl → sProp 𝕄) : bigSep Finset.univ Φ
    = iprop(Φ .bar ∗ (bigSep Finset.univ fun r => Φ (.send r)) ∗ (bigSep Finset.univ fun r => Φ (.recv r)) ∗ bigSep Finset.univ fun i => Φ (.row i)) := by
  rw [bigSep_univ_sum, bigSep_univ_sum, bigSep_univ_sum]
  rw [show (bigSep Finset.univ fun a : Unit => Φ (.inl a)) = Φ .bar from bigSep_singleton]
  rfl

/-! ## What a body starts from and ends with -/

/-- The duties a device pays. -/
def payToks (c : Dev nD) : sProp 𝕄 :=
  iprop((bigSep Finset.univ fun r => dutyTok ER (kcell (peer c r, .bar)) 0 (rev r))
    ∗ (bigSep Finset.univ fun r => dutyTok ER (kcell (c, .send r)) 0 0)
    ∗ (bigSep Finset.univ fun r => dutyTok ER (kcell (peer c r, .recv r)) 0 0)
    ∗ bigSep Finset.univ fun i => dutyTok ER (kcell (c, .row i)) 0 0)

/-- Its positions on its own cells, and those. -/
def linear (c : Dev nD) : sProp 𝕄 :=
  iprop((bigSep Finset.univ fun k : Cl => atPos ER (kcell (c, k)) 0 ∅ 0) ∗ payToks c)

/-- What the launch gives a device: that, the credit of what it will be sent, the levels, and the weights. -/
def start (c : Dev nD) : sProp 𝕄 :=
  iprop((∃ K, records m K ∗ linear c) ∗ cred (tallyAt (kcell (c, .bar)) () 31) ∗ (bigSep Finset.univ fun r => cred (tallyAt (kcell (c, .recv r)) () N))
    ∗ levAts L lv ∗ full c main_arg1 (wAt m c))

/-- The three scratch buffers, at some contents. -/
def scratch (c : Dev nD) : sProp 𝕄 :=
  iprop((∃ f, full c cc0_scratch0 f) ∗ (∃ f, full c cc0_scratch1 f) ∗ (∃ f, full c cc0_scratch4 f))

def Φ₀ (c : Dev nD) : sProp 𝕄 := iprop(start m c ∗ scratch c)
/-- At the end: the scratch buffers, every cell closed at zero, and the weights. -/
def Φ₁ (c : Dev nD) : sProp 𝕄 :=
  iprop(scratch c ∗ (bigSep Finset.univ fun k : Cl => semVal (kcell (c, k)) 0) ∗ full c main_arg1 (wAt m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => sxAt m c
    | ⟨2, _⟩ => swAt m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The stretch from the barrier's wait on -/

variable (K : Dev nD × Cl → ℕ)

/-- What a device holds when it comes to wait for its peers' signals. -/
def mid (c : Dev nD) : sProp 𝕄 :=
  iprop(records m K ∗ levAts L lv ∗ (∃ W, owes (c : Thread nD τ) (O₁ c) W)
    ∗ (bigSep Finset.univ fun k : Cl => atPos ER (kcell (c, k)) 0 ∅ 0)
    ∗ cred (tallyAt (kcell (c, .bar)) () 31) ∗ (bigSep Finset.univ fun r => cred (tallyAt (kcell (c, .recv r)) () N))
    ∗ (bigSep Finset.univ fun i => cred (tallyAt (kcell (c, .row i)) () Nw))
    ∗ (bigSep Finset.univ fun r => dutyTok ER (kcell (c, .send r)) 0 0)
    ∗ (bigSep Finset.univ fun r => dutyTok ER (kcell (peer c r, .recv r)) 0 0)
    ∗ full c cc0_scratch0 (sentAt m c) ∗ rPts c c (recvAt m c)
    ∗ full c cc0_stg0_0 (xAt m c) ∗ full c cc0_stg1_0 (sxAt m c) ∗ full c cc0_stg2_0 (swAt m c) ∗ ∃ f, full c cc0_stg3_0 f)

/-- What it holds at the end. -/
def fin (c : Dev nD) : sProp 𝕄 :=
  iprop(Φ₁ m c ∗ (∃ W, owes (c : Thread nD τ) 0 W)
    ∗ full c cc0_stg0_0 (xAt m c) ∗ full c cc0_stg1_0 (sxAt m c) ∗ full c cc0_stg2_0 (swAt m c) ∗ full c cc0_stg3_0 (outAt m c))

/-- Every cell of a device done with its round closes at zero. -/
theorem close (c : Dev nD) :
    iprop(records m K ∗ bigSep Finset.univ fun k : Cl => atPos ER (kcell (c, k)) 1 ∅ 0)
      ⊢ (|={Set.univ}=> bigSep Finset.univ fun k : Cl => semVal (kcell (c, k)) 0 : sProp 𝕄) :=
  (bigSep_with_persistent (R := records m K) (Ψ := fun k : Cl => iprop(cellInv ER (sched m) (K (c, k)) (kcell (c, k)) ∗ atPos ER (kcell (c, k)) 1 ∅ 0))
    fun k _ => by
      iintro ⟨#HR, Ha⟩
      ihave ⟨#HI, #Hr⟩ := (records_at m K (c, k)) $$ HR
      isplitr; · iexact HI
      iexact Ha).trans
  (Rounds.cells_close ER (sched m) Finset.univ (fun k : Cl => kcell (c, k)) (fun k => K (c, k)) (fun _ _ => Set.mem_univ _) (fun _ _ h => h) (fun _ => 1)
    (fun k _ => duties_later m (kcell (c, k))))

theorem zero₁ : (![0] : Fin 1 → Nat) = fun _ => 0 := funext fun a => by fin_cases a <;> rfl
theorem zero₂ : (![0, 0] : Fin 2 → Nat) = fun _ => 0 := funext fun a => by fin_cases a <;> rfl
theorem zero₃ : (![0, 0, 0] : Fin 3 → Nat) = fun _ => 0 := funext fun a => by fin_cases a <;> rfl

omit [FloatOps F] in
theorem read_x (f : (cc0_stg0_0 : Ref sig .tc).ty.Contents (Elt F)) : xM.view.readAt (Elt F) wholeX.toLoadRect f = f :=
  Memref.readAt_unit_zero (Elt F) cc0_stg0_0 zero₂ _ f
omit [FloatOps F] in
theorem write_s (f w : (cc0_scratch0 : Ref sig .tc).ty.Contents (Elt F)) : (sM.access wholeS : View sig .tc _ _ _).write (Elt F) f w Finset.univ = w :=
  Memref.write_access_unit_zero_univ (Elt F) cc0_scratch0 zero₃ _ f w
omit [FloatOps F] in
theorem write_o (f w : (cc0_stg3_0 : Ref sig .tc).ty.Contents (Elt F)) : (oM.access wholeO : View sig .tc _ _ _).write (Elt F) f w Finset.univ = w :=
  Memref.write_access_unit_zero_univ (Elt F) cc0_stg3_0 zero₂ _ f w

omit [FloatOps F] in
/-- The store of the own slot writes that slot alone, -/
theorem own_access (c : Dev nD) : (rM.access (ownR c)).setOn Finset.univ ⊆ slotSet c :=
  le_of_eq ((View.set_slice_whole _ _).trans (own_set c))
/-- and leaves there what the slot is to hold. -/
theorem own_kept (c : Dev nD) (fr : (cc0_scratch1 : Ref sig .tc).ty.Contents (Elt F)) :
    ((rM.access (ownR c)).loc (c : Thread nD τ) ↦[slotSet c]{fullShare}
        (rM.access (ownR c)).write (Elt F) fr (k0_pay3 (sM.view.readAt (Elt F) (ownR c).toLoadRect (k0_pay2 (k0_pay1 (xAt m c))))) Finset.univ : sProp 𝕄)
      = rPts c c (recvAt m c) := pointsTo_congr (kept m c fr _ (own_read m c))

/-- The scaled store and the waits for what left. -/
theorem tail_exec (c : Dev nD) (Kt : PUnit → sProp 𝕄) :
    iprop((records m K ∗ (∃ W, owes (c : Thread nD τ) 0 W)
        ∗ (bigSep Finset.univ fun r => iprop(atPos ER (kcell (c, .send r)) 0 ∅ 0 ∗ cred (tallyAt (kcell (c, .send r)) () N)))
        ∗ full c cc0_stg1_0 (sxAt m c) ∗ full c cc0_stg2_0 (swAt m c) ∗ (∃ f, full c cc0_stg3_0 f))
      ∗ (((∃ W, owes (c : Thread nD τ) 0 W)
        ∗ (bigSep Finset.univ fun r => iprop(atPos ER (kcell (c, .send r)) 1 ∅ 0 ∗ sPts c (peer c r) (sentAt m c)))
        ∗ full c cc0_stg1_0 (sxAt m c) ∗ full c cc0_stg2_0 (swAt m c) ∗ full c cc0_stg3_0 (outAt m c)) -∗ |={Set.univ}=> Kt ⟨⟩))
      ⊢ exec c (tailProg c (accAll m c rows (broadcast S128x2048 (Scalar.ofBits .f32 0x00000000#32)))) Kt := by
  unfold tailProg
  iintro ⟨⟨#HR, HO, Hs, Hu, Hv, ⟨%f, Ho⟩⟩, Hk⟩
  iapply (wp_load 𝒱₀ (c : Thread nD τ) none Set.univ (m := sxM) (Finset.subset_univ _)) $$ Hu; iintro Hu
  iapply (wp_load 𝒱₀ (c : Thread nD τ) none Set.univ (m := swM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := wholeO) (Mk := Finset.univ) (Finset.subset_univ _)) $$ Ho; iintro Ho
  rw [write_o]
  iapply (each_pos c Kt (records m K) (fun _ => iprop(∃ W, owes (c : Thread nD τ) 0 W))
    (fun r => iprop(atPos ER (kcell (c, .send r)) 0 ∅ 0 ∗ cred (tallyAt (kcell (c, .send r)) () N)))
    (fun r => iprop(atPos ER (kcell (c, .send r)) 1 ∅ 0 ∗ sPts c (peer c r) (sentAt m c))) (sendWaitOp c)
    (fun r _ k => sent_step m K c Kt r k) (.ret ⟨⟩)) $$ [HO Hs]
  · isplitr; · iexact HR
    isplitl [HO] <;> iassumption
  iintro ⟨HO, Hs⟩
  unfold exec; rw [wp_ret]
  iapply Hk
  isplitl [HO]; · iexact HO
  isplitl [Hs]; · iexact Hs
  isplitl [Hu]; · iexact Hu
  isplitl [Hv]; · iexact Hv
  iexact Ho

/-- From the barrier's wait to the end. -/
theorem mid_exec (c : Dev nD) (Kt : PUnit → sProp 𝕄) :
    iprop(mid m K c ∗ (fin m c -∗ |={Set.univ}=> Kt ⟨⟩)) ⊢ exec c (midProg c) Kt := by
  unfold midProg mid
  rw [sep_cl]
  iintro ⟨⟨#HR, #Hlev, ⟨%W, HO⟩, ⟨HaB, HaS, HaV, HaW⟩, HcB, HcV, HcW, HtS, HtV, Hs, Hr, Hx, Hu, Hv, Ho⟩, Hk⟩
  ihave ⟨#HIb, #Hrb⟩ := (records_at m K (c, .bar)) $$ HR
  iapply (Rounds.wp_wait_rest_token 𝒱₀ ER (sched m) (c : Thread nD τ) none (κ := K (c, .bar))
      (wpE_semWait_eq 𝒱₀ (c : Thread nD τ) none Set.univ) (Set.mem_univ _) () (O := O₁ c) (W := W) (R := 0) (m := 0) (T := ∅)
      ((Nat.zero_add 31).trans (expect_cell m c .bar).symm)) $$ [HcB HO HaB]
  · isplitr; · iexact HIb
    isplitl [HcB]; · iexact HcB
    isplitl [HO]; · iexact HO
    isplitr; · iapply (mayWait_bar c); iexact Hlev
    iexact HaB
  iintro ⟨HO, HaB, -, Hp⟩
  ihave Hp := (Entails.of_eq (rest_cell m c .bar)) $$ Hp
  ihave Hs := (Entails.of_eq (s_split c (sentAt m c))) $$ Hs
  icases Hs with ⟨Hown, Hs⟩
  -- the remote copies
  iapply (each_pos c Kt (records m K) (fun l => owes (c : Thread nD τ) (dues (recvDue c) l) (insert (csem .bar, ()) W))
    (fun r => iprop(dutyTok ER (kcell (c, .send r)) 0 0 ∗ dutyTok ER (kcell (peer c r, .recv r)) 0 0 ∗ sPts c (peer c r) (sentAt m c) ∗ ∃ f, rPts (peer c r) c f))
    (fun r => cred (tallyAt (kcell (c, .send r)) () N)) (sendOp c) (fun r l k => send_step m K c Kt _ r l k)) $$ [HO HtS HtV Hs Hp]
  · isplitr; · iexact HR
    isplitl [HO]; · iexact HO
    rw [bigSep_sep', bigSep_sep', bigSep_sep']
    isplitl [HtS]; · iexact HtS
    isplitl [HtV]; · iexact HtV
    isplitl [Hs]; · iexact Hs
    iexact Hp
  iintro ⟨HO, HcS⟩
  -- the waits for what arrives
  iapply (each_pos c Kt (records m K) (fun _ => iprop(∃ W, owes (c : Thread nD τ) 0 W))
    (fun r => iprop(atPos ER (kcell (c, .recv r)) 0 ∅ 0 ∗ cred (tallyAt (kcell (c, .recv r)) () N)))
    (fun r => iprop(atPos ER (kcell (c, .recv r)) 1 ∅ 0 ∗ rPts c (peer c (rev r)) (recvAt m c))) (recvWaitOp c)
    (fun r _ k => recv_step m K c Kt r k)) $$ [HO HaV HcV]
  · isplitr; · iexact HR
    isplitl [HO]; · iexists _; iexact HO
    rw [bigSep_sep']
    isplitl [HaV] <;> iassumption
  iintro ⟨HO, Hb⟩
  ihave Hb := (Entails.of_eq (bigSep_sep' Finset.univ (fun r => atPos ER (kcell (c, .recv r)) 1 ∅ 0) (fun r => rPts c (peer c (rev r)) (recvAt m c)))) $$ Hb
  icases Hb with ⟨HaV, Hb⟩
  ihave Hb := (Entails.of_eq (sep_rev (F := F) fun r => rPts c (peer c r) (recvAt m c)).symm) $$ Hb
  ihave Hr := (show iprop(rPts c c (recvAt m c) ∗ bigSep Finset.univ fun r => rPts c (peer c r) (recvAt m c)) ⊢ rAll m c from
    Entails.of_eq (r_split c (recvAt m c)).symm) $$ [Hr Hb]
  · isplitl [Hr] <;> iassumption
  -- the row blocks
  iapply (carry_row c Kt (records m K) iprop((∃ W, owes (c : Thread nD τ) 0 W) ∗ rAll m c)
    (fun i => iprop(atPos ER (kcell (c, .row i)) 0 ∅ 0 ∗ cred (tallyAt (kcell (c, .row i)) () Nw)))
    (fun i => iprop(atPos ER (kcell (c, .row i)) 1 ∅ 0 ∗ bPts c i (bufAt m c) ∗ wPts c i (wAt m c))) rowStep
    (fun a i => accRow m c i a) (fun i a k => row_step m K c Kt i a k)) $$ [HO Hr HaW HcW]
  · isplitr; · iexact HR
    isplitl [HO Hr]; · isplitl [HO] <;> iassumption
    rw [bigSep_sep']
    isplitl [HaW] <;> iassumption
  iintro ⟨⟨HO, Hr⟩, Hw⟩
  -- the store and the last waits
  iapply (tail_exec m K c Kt)
  isplitl [HO HaS HcS Hu Hv Ho]
  · isplitr; · iexact HR
    isplitl [HO]; · iexact HO
    isplitl [HaS HcS]
    · rw [bigSep_sep']; isplitl [HaS] <;> iassumption
    isplitl [Hu]; · iexact Hu
    isplitl [Hv] <;> iassumption
  iintro ⟨HO, Hs, Hu, Hv, Ho⟩
  ihave Hs := (Entails.of_eq (bigSep_sep' Finset.univ (fun r => atPos ER (kcell (c, .send r)) 1 ∅ 0) (fun r => sPts c (peer c r) (sentAt m c)))) $$ Hs
  icases Hs with ⟨HaS, Hs⟩
  ihave Hw := (Entails.of_eq (bigSep_sep' Finset.univ (fun i => atPos ER (kcell (c, .row i)) 1 ∅ 0) (fun i => iprop(bPts c i (bufAt m c) ∗ wPts c i (wAt m c))))) $$ Hw
  icases Hw with ⟨HaW, Hw⟩
  ihave Hw := (Entails.of_eq (bigSep_sep' Finset.univ (fun i => bPts c i (bufAt m c)) (fun i => wPts c i (wAt m c)))) $$ Hw
  icases Hw with ⟨Hb, Hw⟩
  imod (close m K c) $$ [HaB HaS HaV HaW] with Hz
  · rw [sep_cl]
    isplitr; · iexact HR
    isplitl [HaB]; · iexact HaB
    isplitl [HaS]; · iexact HaS
    isplitl [HaV] <;> iassumption
  iapply Hk
  unfold fin Φ₁ scratch
  isplitl [Hown Hs Hr Hb Hz Hw]
  · isplitl [Hown Hs Hr Hb]
    · isplitl [Hown Hs]
      · iexists (sentAt m c); rw [s_split]; isplitl [Hown] <;> iassumption
      isplitl [Hr]
      · iexists (recvAt m c); unfold rAll; iexact Hr
      · iexists (bufAt m c); rw [b_split]; iexact Hb
    isplitl [Hz]; · iexact Hz
    rw [w_split]; iexact Hw
  isplitl [HO]; · iexact HO
  isplitl [Hx]; · iexact Hx
  isplitl [Hu]; · iexact Hu
  isplitl [Hv] <;> iassumption

/-! ## The stretch before it -/

/-- From the start to the barrier's wait. -/
theorem start_exec (c : Dev nD) (W : Waits sig Unit) (Kt : PUnit → sProp 𝕄) :
    iprop((records m K ∗ linear c ∗ cred (tallyAt (kcell (c, .bar)) () 31) ∗ (bigSep Finset.univ fun r => cred (tallyAt (kcell (c, .recv r)) () N))
        ∗ levAts L lv ∗ full c main_arg1 (wAt m c) ∗ scratch c ∗ owes (c : Thread nD τ) (O₀ c) W
        ∗ full c cc0_stg0_0 (xAt m c) ∗ full c cc0_stg1_0 (sxAt m c) ∗ full c cc0_stg2_0 (swAt m c) ∗ ∃ f, full c cc0_stg3_0 f)
      ∗ (mid m K c -∗ exec c (midProg c) Kt)) ⊢ exec c bodyProg Kt := by
  unfold bodyProg exec
  rw [wp_deviceId]
  unfold linear payToks scratch
  iintro ⟨⟨#HR, ⟨Hat, HtB, HtS, HtV, HtW⟩, HcB, HcV, #Hlev, Hw, ⟨⟨%fs, Hs⟩, ⟨%fr, Hr⟩, ⟨%fb, Hb⟩⟩, HO, Hx, Hu, Hv, Ho⟩, Hk⟩
  ihave Hr := (Entails.of_eq (r_split c fr)) $$ Hr
  icases Hr with ⟨Hown, Hr⟩
  ihave Hr := (r_some c fr) $$ Hr
  ihave Hw := (Entails.of_eq (w_split c (wAt m c))) $$ Hw
  ihave Hb := (Entails.of_eq (b_split c fb)) $$ Hb
  ihave Hb := (b_some c fb) $$ Hb
  -- the signals
  iapply (each_pos c Kt (records m K) (fun l => owes (c : Thread nD τ) (O₁ c + dues (barDue c) l) W)
    (fun r => iprop(dutyTok ER (kcell (peer c r, .bar)) 0 (rev r) ∗ ∃ f, rPts c (peer c r) f)) (fun _ => iprop(emp)) (sigOp c)
    (fun r l k => sig_step m K c Kt (O₁ c) W r l k)) $$ [HO HtB Hr]
  · isplitr; · iexact HR
    isplitl [HO]; · iexact HO
    rw [bigSep_sep']; isplitl [HtB] <;> iassumption
  iintro ⟨HO, -⟩
  rw [show O₁ c + dues (barDue c) [] = O₁ c from add_zero _]
  -- the copies of the weights
  iapply (each_row c Kt (records m K) (fun _ => iprop(emp))
    (fun i => iprop(dutyTok ER (kcell (c, .row i)) 0 0 ∗ (∃ f, bPts c i f) ∗ wPts c i (wAt m c))) (fun i => cred (tallyAt (kcell (c, .row i)) () Nw)) rowsOp
    (fun i _ k => rows_step m K c Kt i k)) $$ [HtW Hb Hw]
  · isplitr; · iexact HR
    isplitr; · iempintro
    rw [bigSep_sep', bigSep_sep']
    isplitl [HtW]; · iexact HtW
    isplitl [Hb] <;> iassumption
  iintro ⟨-, HcW⟩
  -- the send buffer and the own slot
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := wholeS) (Mk := Finset.univ) (Finset.subset_univ _)) $$ Hs; iintro Hs
  rw [write_s]
  iapply (wp_load 𝒱₀ (c : Thread nD τ) none Set.univ (m := sM) (Finset.subset_univ _)) $$ Hs; iintro Hs
  unfold rPts
  iapply (wp_load 𝒱₀ (c : Thread nD τ) none Set.univ (m := rM) (S := slotSet c)
    (fun x hx => by obtain ⟨y, hy, rfl⟩ := Finset.mem_map.1 hx; rw [← own_set c]; exact hy)) $$ Hown; iintro Hown
  iapply (wp_store 𝒱₀ (c : Thread nD τ) none Set.univ (m := rM) (r := ownR c) (Mk := Finset.univ) (S := slotSet c) (own_access c)) $$ Hown; iintro Hown
  ihave Hown := (Entails.of_eq (own_kept m c fr)) $$ Hown
  iapply Hk
  unfold mid
  isplitr; · iexact HR
  isplitr; · iexact Hlev
  isplitl [HO]; · iexists W; iexact HO
  isplitl [Hat]; · iexact Hat
  isplitl [HcB]; · iexact HcB
  isplitl [HcV]; · iexact HcV
  isplitl [HcW]; · iexact HcW
  isplitl [HtS]; · iexact HtS
  isplitl [HtV]; · iexact HtV
  isplitl [Hs]; · iexact Hs
  isplitl [Hown]; · iexact Hown
  isplitl [Hx]; · iexact Hx
  isplitl [Hu]; · iexact Hu
  isplitl [Hv] <;> iassumption

/-! ## The library's body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ ∗ stg c cc0_stg0_0 (xAt m c) ∗ stg c cc0_stg1_0 (sxAt m c) ∗ stg c cc0_stg2_0 (swAt m c)
    ∗ stg c cc0_stg3_0 (outAt m c))

theorem sound_body (c : Dev nD) : bodyPre m ρ c ⊢ exec c bodyProg (fun _ => bodyPost m ρ c) := by
  unfold bodyPre Φ₀ start Dat.owesAt Pipeline.owesWithin
  iintro ⟨⟨⟨⟨%K, #HR, Hl⟩, HcB, HcV, Hlev, Hw⟩, Hsc⟩, ⟨%W, %hW, HO⟩, ⟨%d0, %g0, %hg0, Hx⟩, ⟨%d1, %g1, %hg1, Hu⟩, ⟨%d2, %g2, %hg2, Hv⟩, ⟨%d3, %g3, %hg3, Ho⟩⟩
  rw [show (dats m ρ 0 c).owed t0_0.castSucc = O₀ c from rfl]
  have h0 : g0 = xAt m c := by rw [hg0]; unfold Dat.before; rw [if_pos (fetch0_0 t0_0)]; rfl
  have h1 : g1 = sxAt m c := by rw [hg1]; unfold Dat.before; rw [if_pos (fetch0_1 t0_0)]; rfl
  have h2 : g2 = swAt m c := by rw [hg2]; unfold Dat.before; rw [if_pos (fetch0_2 t0_0)]; rfl
  subst h0 h1 h2
  iapply (start_exec m K c W fun _ => bodyPost m ρ c)
  isplitl [Hl HcB HcV Hlev Hw Hsc HO Hx Hu Hv Ho]
  · isplitr; · iexact HR
    isplitl [Hl]; · iexact Hl
    isplitl [HcB]; · iexact HcB
    isplitl [HcV]; · iexact HcV
    isplitl [Hlev]; · iexact Hlev
    isplitl [Hw]; · iexact Hw
    isplitl [Hsc]; · iexact Hsc
    isplitl [HO]; · iexact HO
    isplitl [Hx]; · iexact Hx
    isplitl [Hu]; · iexact Hu
    isplitl [Hv]; · iexact Hv
    iexists g3; iexact Ho
  iintro Hm
  iapply (mid_exec m K c fun _ => bodyPost m ρ c)
  isplitl [Hm]; · iexact Hm
  unfold fin bodyPost Dat.owesAt Pipeline.owesWithin
  rw [show (dats m ρ 0 c).owed t0_0.succ = 0 from rfl]
  iintro ⟨HΦ, ⟨%W', HO⟩, Hx, Hu, Hv, Ho⟩
  imodintro
  isplitl [HΦ]; · iexact HΦ
  isplitl [HO]
  · iexists W'
    isplitr; · ipureintro; exact fun _ _ => Or.inl trivial
    iexact HO
  isplitl [Hx]; · iexists _; isplitr; · (ipureintro; rfl)
                  iexact Hx
  isplitl [Hu]; · iexists _; isplitr; · (ipureintro; rfl)
                  iexact Hu
  isplitl [Hv]; · iexists _; isplitr; · (ipureintro; rfl)
                  iexact Hv
  iexists _; isplitr; · (ipureintro; rfl)
  iexact Ho

set_option maxRecDepth 65536 in
theorem body_obligation (c : Dev nD) : BodyObligation (dats (F := F) m ρ 0 c) (defs₀ (F := F)) 𝒱₀ () Set.univ := fun t => by
  rw [fin_N0 t, bigSep_W0, bigSep_W0]
  simp only [owns_whole_eq]
  exact sound_body m ρ c

end Cert.KernelIdeal.Run

end
-- ==== Proof.IdealLaunch.lean ====
/-
# The launch

What the launch deals the devices, how the duties' tokens go from the device whose cell it is to the device that pays, the
credit of what each device is owed, and the run of the whole program.
-/
module

public import proofs.«01_k».proof.Proof.IdealBody
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by
  unfold Dat.share; split <;> rfl

/-! ## What is minted -/

def allCells : Finset (GSem nD τ sig) := Finset.univ.map ⟨kcell, kcell_inj⟩

/-- A device's own duties: the 31 of its barrier cell, and one of each other cell. -/
abbrev Duties : Type := Fin 31 ⊕ Own
abbrev tokOf : Dev nD × Duties → GSem nD τ sig × ℕ × Fin 31
  | (c, .inl d) => (kcell (c, .bar), 0, d)
  | (c, .inr o) => (kcell (c, .inr o), 0, 0)

theorem tokOf_inj : Function.Injective tokOf := by
  have cell : ∀ {c c' : Dev nD} {k k' : Cl}, kcell (c, k) = kcell (c', k') → c = c' ∧ k = k' :=
    fun h => Prod.mk.inj (kcell_inj h)
  rintro ⟨c, d | o⟩ ⟨c', d' | o'⟩ h
  · obtain ⟨rfl, -⟩ := cell (congrArg Prod.fst h)
    have : d = d' := congrArg (fun x : GSem nD τ sig × ℕ × Fin 31 => x.2.2) h
    rw [this]
  · exact absurd (cell (congrArg Prod.fst h)).2 (fun h => by cases h)
  · exact absurd (cell (congrArg Prod.fst h)).2 (fun h => by cases h)
  · obtain ⟨rfl, ho⟩ := cell (congrArg Prod.fst h)
    rw [Sum.inr.inj ho]
def allToks : Finset (GSem nD τ sig × ℕ × Fin 31) := Finset.univ.map ⟨tokOf, tokOf_inj⟩

def u₀ : UU :=
  (initOf (Pipeline.cells cfgs cellOf_inj) (Pipeline.launchToks cfgs cellOf_inj), initOf allCells allToks)

/-- The tokens of the duties on a device's own cells. -/
def toks (c : Dev nD) : sProp 𝕄 :=
  iprop((bigSep Finset.univ fun d => dutyTok ER (kcell (c, .bar)) 0 d) ∗ (bigSep Finset.univ fun r => dutyTok ER (kcell (c, .send r)) 0 0)
    ∗ (bigSep Finset.univ fun r => dutyTok ER (kcell (c, .recv r)) 0 0) ∗ bigSep Finset.univ fun i => dutyTok ER (kcell (c, .row i)) 0 0)

/-- What the minted element deals a device, -/
def G (c : Dev nD) : sProp 𝕄 :=
  iprop((bigSep Finset.univ fun k : Cl => roundState ER (sched m) (kcell (c, k)) 0)
    ∗ (bigSep Finset.univ fun k : Cl => iprop(atPos ER (kcell (c, k)) 0 ∅ 0 ∗ reached ER (kcell (c, k)) 0)) ∗ toks c)
/-- and what becomes of it. -/
def G' (c : Dev nD) : sProp 𝕄 := iprop(∃ K, records m K ∗ linear c)

theorem fund : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Cl => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum, bigSep_univ_sum]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells opened -/

omit [FloatOps F] in
/-- The barrier's counter is the one counter outside the kernel's scope. -/
theorem unscopedSems0_eq (c : Dev nD) : (unscopedSems0 c : sProp 𝕄) = semVal (kcell (c, .bar)) 0 := by
  unfold unscopedSems0; rw [bigSep_eq_bigSepL_of_eq [SemLoc.reg barS] (by decide +kernel) (by decide)]; rfl

omit [FloatOps F] in
/-- The kernel's own counters and that one are the cells' counters. -/
theorem sems0_eq (c : Dev nD) :
    (bigSep Finset.univ fun k : Cl => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_sum, unscopedSems0_eq]
  rw [show (bigSep Finset.univ fun a : Unit => (semVal (kcell (c, .inl a)) 0 : sProp 𝕄)) = semVal (kcell (c, .bar)) 0 from bigSep_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cl => semVal (kcell (c, k)) 0) ∗ bigSep Finset.univ fun k : Cl => roundState ER (sched m) (kcell (c, k)) 0)
      ⊢ (|={Set.univ}=> bigSep Finset.univ fun k : Cl => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to the devices that pay -/

/-- Device `c` at position `r`, seen from its peer there; -/
def facing : Dev nD × Fin 31 ≃ Dev nD × Fin 31 where
  toFun p := (peer p.1 p.2, rev p.2)
  invFun p := (peer p.1 p.2, rev p.2)
  left_inv p := by dsimp only; rw [peer_rev, rev_rev]
  right_inv p := by dsimp only; rw [peer_rev, rev_rev]
/-- and its peer at the same position. -/
def ahead : Dev nD × Fin 31 ≃ Dev nD × Fin 31 where
  toFun p := (peer p.1 p.2, p.2)
  invFun p := (peer p.1 (rev p.2), p.2)
  left_inv p := by dsimp only; rw [peer_rev]
  right_inv p := by dsimp only; rw [rev_peer]

omit [FloatOps F] in
theorem sep_through (e : Dev nD × Fin 31 ≃ Dev nD × Fin 31) (Φ : Dev nD × Fin 31 → sProp 𝕄) :
    (bigSep Finset.univ fun c => bigSep Finset.univ fun r => Φ (c, r)) = bigSep Finset.univ fun c => bigSep Finset.univ fun r => Φ (e (c, r)) := by
  rw [← bigSep_univ_prod Φ, bigSep_univ_equiv e Φ, bigSep_univ_prod]

omit [FloatOps F] in
theorem toks_dealt : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    sep_through facing fun p => (dutyTok ER (kcell (p.1, .bar)) 0 p.2 : sProp 𝕄),
    sep_through ahead fun p => (dutyTok ER (kcell (p.1, .recv p.2)) 0 0 : sProp 𝕄)]
  rfl

theorem regroup :
    (bigSep Finset.univ fun c : Dev nD => iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cl => iprop(∃ κ : ℕ, cellInv ER (sched m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄)), toks_dealt]
  iintro ⟨HI, ⟨Hat, #HR⟩, Htok⟩
  ihave HK := (BI.bigSep_exists_pi Finset.univ (fun (ck : Dev nD × Cl) (κ : ℕ) => (cellInv ER (sched m) κ (kcell ck) : sProp 𝕄))) $$ HI
  icases HK with ⟨%K, #HI⟩
  iapply (bigSep_with_persistent (R := records m K) (Φ := linear) (Ψ := G' m) fun c _ => show iprop(records m K ∗ linear c) ⊢ G' m c from by
    unfold G'; iintro H; iexists K; iexact H)
  isplitr
  · unfold records; isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_iff {c c' : Dev nD} {k k' : Cl} : kcell (c, k) = kcell (c', k') ↔ c = c' ∧ k = k' :=
  ⟨fun h => Prod.mk.inj (kcell_inj h), fun ⟨h, h'⟩ => by rw [h, h']⟩

theorem due_cell (d c : Dev nD) (k' k : Cl) (n : ℕ) :
    (tallyAt (kcell (d, k')) () n : CellTallies nD τ sig Unit) (kcell (c, k)) () = if c = d ∧ k = k' then n else 0 := by
  rw [tallyAt_apply]
  exact if_congr ⟨fun h => cell_iff.mp h.1, fun h => ⟨cell_iff.mpr h, rfl⟩⟩ rfl rfl

/-- What device `d` owes a barrier cell, and an arriving one. -/
theorem owed_bar (d c : Dev nD) : O₀ d (kcell (c, .bar)) () = ∑ r : Fin 31, if c = peer d r then 1 else 0 := by
  unfold O₀ O₁
  rw [Pi.add_apply, Finsupp.add_apply, dues_pos_apply, dues_pos_apply, Finset.sum_eq_zero fun r _ => ?_, Nat.zero_add]
  · refine Finset.sum_congr rfl fun r _ => (due_cell _ _ _ _ _).trans (if_congr (and_iff_left rfl) rfl rfl)
  · refine (due_cell _ _ _ _ _).trans (if_neg ?_)
    rintro ⟨-, h⟩; cases h
theorem owed_recv (d c : Dev nD) (r : Fin 31) : O₀ d (kcell (c, .recv r)) () = if c = peer d r then N else 0 := by
  unfold O₀ O₁
  rw [Pi.add_apply, Finsupp.add_apply, dues_pos_apply, dues_pos_apply, Finset.sum_eq_zero (f := fun r' => barDue d r' _ _) fun r' _ => ?_, Nat.add_zero]
  · rw [Finset.sum_eq_single r]
    · exact (due_cell _ _ _ _ _).trans (if_congr (and_iff_left rfl) rfl rfl)
    · intro r' _ hr
      refine (due_cell _ _ _ _ _).trans (if_neg ?_)
      rintro ⟨-, h⟩; exact hr (Sum.inl.inj (Sum.inr.inj (Sum.inr.inj h))).symm
    · exact fun h => absurd (Finset.mem_univ r) h
  · refine (due_cell _ _ _ _ _).trans (if_neg ?_)
    rintro ⟨-, h⟩; cases h

/-- One device has `c` as its peer at a position. -/
theorem one_sender (c : Dev nD) (r : Fin 31) (n : ℕ) : (∑ d : Dev nD, if c = peer d r then n else 0) = n := by
  have h (d : Dev nD) : c = peer d r ↔ d = peer c (rev r) :=
    ⟨fun h => by rw [h, peer_rev], fun h => by rw [h, rev_peer]⟩
  simp only [h, Finset.sum_ite_eq', Finset.mem_univ, if_true]

theorem launch_bar (c : Dev nD) :
    tallyOn (kcell (c, .bar)) (launchCredit (Pipeline.owing O₀) 0 (kcell (c, .bar))) = (tallyAt (kcell (c, .bar)) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => one_sender c r 1]
  rfl

theorem launch_recv (c : Dev nD) (r : Fin 31) :
    tallyOn (kcell (c, .recv r)) (launchCredit (Pipeline.owing O₀) 0 (kcell (c, .recv r))) = (tallyAt (kcell (c, .recv r)) () N : CellTallies nD τ sig Unit) := by
  unfold tallyAt; refine congrArg _ (Finsupp.ext fun u => ?_); cases u
  rw [Pipeline.launchCredit_owing, Finsupp.single_eq_same, Finset.sum_congr rfl fun d _ => owed_recv d c r, one_sender]

omit [FloatOps F] in
theorem creds (c : Dev nD) : (Pipeline.launchCred O₀ c : sProp 𝕄)
    ⊢ iprop(cred (tallyAt (kcell (c, .bar)) () 31) ∗ bigSep Finset.univ fun r => cred (tallyAt (kcell (c, .recv r)) () N)) := by
  have inj : Function.Injective fun r : Fin 31 => csem (.recv r) := fun r r' h => Sum.inl.inj (Sum.inr.inj (Sum.inr.inj (csem_inj h)))
  have sub : Finset.univ.map ⟨_, inj⟩ ⊆ (Finset.univ : Finset (SemLoc sig)).erase (.reg barS) := by
    intro s hs
    obtain ⟨r, -, rfl⟩ := Finset.mem_map.mp hs
    exact Finset.mem_erase.mpr ⟨fun h => Sum.inr_ne_inl (csem_inj (a₁ := .recv r) (a₂ := .bar) h), Finset.mem_univ _⟩
  unfold Pipeline.launchCred
  rw [bigSep_univ_at _ (SemLoc.reg barS), show _ = _ from launch_bar c]
  refine sep_mono_right ((bigSep_subset sub).trans ?_)
  rw [bigSep_map]
  exact bigSep_mono fun r _ => Entails.of_eq (congrArg cred (launch_recv c r))

/-! ## The sides of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device has in the end outside the windows: its barrier's counter at zero, and the weights. -/
def rest (c : Dev nD) : sProp 𝕄 := iprop(unscopedSems0 c ∗ full c main_arg1 (wAt m c))

theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = Φ₁ m c from rfl, scopedRest0_eq]
  unfold Φ₁ rest scratch
  rw [sems0_eq]
  iintro ⟨Hr, ⟨HzB, HzO⟩, Hw⟩
  isplitl [HzB Hw]
  · isplitl [HzB] <;> iassumption
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- What a device's rest says of the final memory. -/
def restSays (c : Dev nD) (s : MemSt nD τ sig (Elt F)) : Prop :=
  (∀ sm : SemLoc sig, sm.isScoped .tc = false → s.sem ((c.tc : Thread nD τ), sm) = 0) ∧ s.mem ((c : Thread nD τ).loc main_arg1) = wAt m c

theorem rest_read (c : Dev nD) (s' : Phys nD τ sig (Elt F)) :
    iprop(rest m c ∗ emp ∗ SI s') ⊢ |={Set.univ}=> iprop(⌜restSays m c s'.mem⌝ ∗ SI s') := by
  unfold rest
  iintro ⟨⟨Hu, Hw⟩, -, HSI⟩
  ihave %h := (SI_pointsTo_agree (st := s') (ℓ := (c : Thread nD τ).loc main_arg1) (I := Finset.univ) (q := fullShare) (f := wAt m c)) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h i (Finset.mem_univ i)⟩
  iexact HSI

/-! ## The run -/

/-- A window's array after the run. -/
def finalA (c : Dev nD) (w : Fin cfg0.W) : Buf (Elt F) ((cfg0.win w).arr.view.loc (c : Thread nD τ)) := (dats m ρ 0 c).arrAt w cfg0.N

/-- Every window's array is what the data say, and the weights are as at launch. -/
def Done (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = wAt m c

/-- Such a memory holds each argument as at launch. -/
theorem Done.args {s : MemSt nD τ sig (Elt F)} (h : Done m ρ s) (c : Dev nD) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3) :=
  ⟨((h c).1 0).trans ((dats m ρ 0 c).arrAt_in 0 rfl _), (h c).2, ((h c).1 1).trans ((dats m ρ 0 c).arrAt_in 1 rfl _),
    ((h c).1 2).trans ((dats m ρ 0 c).arrAt_in 2 rfl _)⟩

set_option maxRecDepth 100000 in
/-- From any memory with every counter at zero, every weakly fair run of the program ends, with the arrays as `Done` says and
    every counter at zero. -/
theorem run_main : θ_run defs (onTc (τ := τ) (main (F := F))) (s₀ m ρ) (fun r => Done m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m ρ) (hout := phi1_exit m ρ)
    (QY := restSays m)
    (hY := fun c s' => rest_read m c s')
    (hQ := fun _ h hs => ⟨fun c => ⟨(h c).1, (h c).2.2.2⟩, sem_eq_zero hs fun c => (h c).2.2.1⟩)

end Cert.KernelIdeal.Run

end
-- ==== Proof.IdealValue.lean ====
/-
# The value

On the extended reals, device `c`'s result is block `c` of rows of `(x * w) * (sx * sw)`. A narrowing there keeps its operand, so
slot `j` of what device `c` received is the rows `128 * c + p` and the columns `128 * j + k` of `x`. The 32 products add up, 128
columns at a time, to the sum over all 4096.
-/
module

public import proofs.«01_k».proof.Proof.IdealLaunch
public import proofs.«01_k».proof.Proof.Gen.ReferenceIdeal.Read
public import Idealize.ShloMosaic.Lib.MatmulPlain
public import Idealize.ShloMosaic.Lib.ValueIdx
public import Idealize.ShloMosaic.Lib.Pointwise.Sums
public import Idealize.ShloMosaic.Lib.Pipeline.ValueKit.Geometry

@[expose] public section

noncomputable section

namespace Cert.KernelIdeal.Run

open Cert.KernelIdeal Cert.KernelIdeal.Gen
open Idealize.ShloMosaic hiding ix2 ix3 eq_ix2
open Idealize.ShloMosaic.TcCoe Idealize.ShloMosaic.ValueIdx
open Idealize.SL.Sem
open Idealize.ShloMosaic.Pipeline (Dat Cfg Window)
open scoped BigOperators

/-! ## The staged blocks and the result's array, at any instance -/

section Any

variable {F : FTy → Type} [FloatOps F]
variable (m : (ℓ : Loc nD τ sig) → Buf (Elt F) ℓ) (ρ : Dev nD → PrngReg)

/-- Each staged block is its whole array. -/
theorem xAt_eq (c : Dev nD) : xAt m c = m ((c : Thread nD τ).loc main_arg0) := by
  unfold xAt; exact Memref.readAt_unit_zero (Elt F) main_arg0 (by funext a; fin_cases a <;> rfl) _ _
theorem sxAt_eq (c : Dev nD) : sxAt m c = m ((c : Thread nD τ).loc main_arg2) := by
  unfold sxAt; exact Memref.readAt_unit_zero (Elt F) main_arg2 (by funext a; fin_cases a <;> rfl) _ _
theorem swAt_eq (c : Dev nD) : swAt m c = m ((c : Thread nD τ).loc main_arg3) := by
  unfold swAt; exact Memref.readAt_unit_zero (Elt F) main_arg3 (by funext a; fin_cases a <;> rfl) _ _

/-- The result's array ends holding what the body stored. -/
theorem finalA_out (c : Dev nD) : finalA m ρ c 3 = outAt m c := by
  unfold finalA
  exact (dats m ρ 0 c).arrAt_eq_of_after_last 3 t0_0 (by decide +kernel) (outAt m c) fun j => rfl

end Any

/-! ## The products -/

variable (m : (ℓ : Loc nD τ sig) → Buf (Elt Ideal) ℓ) (ρ : Dev nD → PrngReg)

/-- Device `d`'s columns of `x` at a row and a column, its weights, and its scales, as extended reals. -/
def xs (d : Dev nD) (i : S4096x128.Idx) : EReal := m ((d : Thread nD τ).loc main_arg0) i
def ws (d : Dev nD) (i : S4096x2048.Idx) : EReal := m ((d : Thread nD τ).loc main_arg1) i
def sx (d : Dev nD) (i : S1.Idx) : EReal := m ((d : Thread nD τ).loc main_arg2) i
def sw (d : Dev nD) (i : S1.Idx) : EReal := m ((d : Thread nD τ).loc main_arg3) i

/-- Row `p` of block `b` of 128 rows. -/
def row (b : Fin 32) (p : Fin 128) : Fin 4096 := ⟨b.val * 128 + p.val, by omega⟩

/-- Slot `b` of what device `d` sends, at row `p` and column `k`: `x` at that row of block `b`. -/
theorem sent_apply (d : Dev nD) (i : S32x128x128.Idx) (b : Fin 32) (p k : Fin 128) (hb : (i 0).val = b.val) (hp : (i 1).val = p.val)
    (hk : (i 2).val = k.val) : sentAt m d i = xs m d (ix2 (row b p) k) := by
  unfold sentAt k0_pay2 k0_pay1
  rw [xAt_eq, shapeCast_self, shapeCast_self]
  refine (shapeCast_apply _ _ _ (ix2 (row b p) k) ?_).trans rfl
  rw [Shape.rowMajor_val_two, Shape.rowMajor_val_three, hb, hp, hk]
  rfl

/-- The block a product loads from slot `j` of what device `c` received, at row `p` and column `k`. -/
theorem slot_apply (c : Dev nD) (j : Fin 32) (p k : Fin 128) :
    shapeCast S128x128 (rM.view.readAt (Elt Ideal) (slotR j).toLoadRect (recvAt m c)) shapeCasts_S1x128x128_S128x128 (ix2 p k)
      = xs m (⟨j.val, j.isLt⟩ : Dev nD) (ix2 (row ⟨c.val, c.isLt⟩ p) k) := by
  refine (shapeCast_apply _ _ _ (ix3 (0 : Fin 1) p k) ?_).trans ?_
  · rw [Shape.rowMajor_val_two, Shape.rowMajor_val_three]
    show (0 * 128 + p.val) * 128 + k.val = p.val * 128 + k.val
    rw [Nat.zero_mul, Nat.zero_add]
  · have h : ∀ a : Fin 3, (((slotR j).emb (ix3 (0 : Fin 1) p k) : S32x128x128.Idx) a).val = (![j.val, p.val, k.val] : Fin 3 → ℕ) a := fun a => by
      rw [Rect.emb_apply]
      match a with
      | ⟨0, _⟩ => rfl
      | ⟨1, _⟩ => show 0 + 1 * p.val = p.val; omega
      | ⟨2, _⟩ => show 0 + 1 * k.val = k.val; omega
    show recvAt m c ((slotR j).emb (ix3 (0 : Fin 1) p k)) = _
    rw [recvAt_of m c (⟨j.val, j.isLt⟩ : Dev nD) _ (h 0)]
    exact sent_apply m _ _ _ p k (toSlot_zero c _) ((congrArg Fin.val (toSlot_ne c _ (by decide))).trans (h 1))
      ((congrArg Fin.val (toSlot_ne c _ (by decide))).trans (h 2))

/-- The rows of the weights it loads, at row `k` and column `q`. -/
theorem block_read (c : Dev nD) (j : Fin 32) (k : Fin 128) (q : Fin 2048) :
    bM.view.readAt (Elt Ideal) (blockR j).toLoadRect (bufAt m c) (ix2 k q) = ws m c (ix2 (row j k) q) := by
  show m ((c : Thread nD τ).loc main_arg1) ((blockR j).emb (ix2 k q)) = _
  refine congrArg (m ((c : Thread nD τ).loc main_arg1)) (funext fun a => Fin.ext ?_)
  rw [Rect.emb_apply]
  match a with
  | ⟨0, _⟩ => show 128 * j.val + 1 * k.val = j.val * 128 + k.val; omega
  | ⟨1, _⟩ => show 0 + 1 * q.val = q.val; omega

/-- What product `j` adds at row `p` and column `q` of device `c`'s result. -/
def term (c : Dev nD) (p : Fin 128) (q : Fin 2048) (j : Fin 32) : EReal :=
  ∑ k : Fin 128, xs m (⟨j.val, j.isLt⟩ : Dev nD) (ix2 (row ⟨c.val, c.isLt⟩ p) k) * ws m c (ix2 (row j k) q)

theorem accStep_apply (c : Dev nD) (j : Fin 32) (a : FVec Ideal S128x2048 .f32) (p : Fin 128) (q : Fin 2048) :
    accStep m c j a (ix2 p q) = a (ix2 p q) + term m c p q j := by
  unfold accStep addProd
  refine (Idealize.ShloMosaic.ValueIdx.addf_apply _ _ _).trans ?_
  refine congrArg (a (ix2 p q) + ·) ?_
  simp only [matmul]
  refine (Ideal.matmul_plain_apply (M := 128) (K := 128) (N := 2048) none _ _ _ p q).trans ?_
  rw [show constant (F := Ideal) S128x2048 .f32 0x00000000#32 (ix2 p q) = 0 from Ideal.ofBits_zero_f32, zero_add]
  refine Finset.sum_congr rfl fun k _ => ?_
  rw [slot_apply]
  exact congrArg (_ * ·) (block_read m c j k q)

/-- Carrying a sum along a list, read at one index, adds what each member adds. -/
theorem foldl_apply {A I : Type} (f : (I → EReal) → A → I → EReal) (g : A → EReal) (i : I) (h : ∀ a x, f a x i = a i + g x)
    (l : List A) (a : I → EReal) : l.foldl f a i = a i + (l.map g).sum := by
  induction l generalizing a with
  | nil => exact (add_zero _).symm
  | cons x l ih => rw [List.foldl_cons, ih, h, List.map_cons, List.sum_cons, add_assoc]

theorem accRow_apply (c : Dev nD) (i : Fin 8) (a : FVec Ideal S128x2048 .f32) (p : Fin 128) (q : Fin 2048) :
    accRow m c i a (ix2 p q) = a (ix2 p q) + ∑ s : Fin 4, term m c p q (blk i s) := by
  unfold accRow
  rw [foldl_apply (fun a s => accStep m c (blk i s) a) (fun s => term m c p q (blk i s)) (ix2 p q)
    (fun a s => accStep_apply m c (blk i s) a p q), ← List.sum_toFinset _ (show sub.Nodup by decide),
    ← show (Finset.univ : Finset (Fin 4)) = sub.toFinset by decide]

/-- The 32 products from zero add up to the sum over the 4096 columns. -/
theorem accAll_apply (c : Dev nD) (p : Fin 128) (q : Fin 2048) :
    accAll m c rows (broadcast S128x2048 (Scalar.ofBits .f32 0x00000000#32)) (ix2 p q) = ∑ j : Fin 32, term m c p q j := by
  unfold accAll
  rw [foldl_apply (fun a i => accRow m c i a) (fun i => ∑ s : Fin 4, term m c p q (blk i s)) (ix2 p q)
    (fun a i => accRow_apply m c i a p q), ← List.sum_toFinset _ rows_nodup, ← rows_univ, Fin.sum_univ_tiles 8 4 rfl]
  rw [show broadcast S128x2048 (Scalar.ofBits (F := Ideal) .f32 0x00000000#32) (ix2 p q) = 0 from Ideal.ofBits_zero_f32, zero_add]
  exact Finset.sum_congr rfl fun i _ => Finset.sum_congr rfl fun s _ =>
    congrArg (term m c p q) (Fin.ext (by show 4 * i.val + s.val = i.val * 4 + s.val; omega))

/-- The one index of the scales. -/
theorem scale_idx (i j : S1.Idx) : i = j :=
  funext fun a => Fin.ext (by
    match a with
    | ⟨0, _⟩ =>
      have hi : (i 0).val < 1 := (i 0).isLt
      have hj : (j 0).val < 1 := (j 0).isLt
      show (i 0).val = (j 0).val
      omega)

/-- Device `c`'s result at row `p` and column `q`. -/
theorem outAt_apply (c : Dev nD) (p : Fin 128) (q : Fin 2048) (e : S1.Idx) :
    outAt m c (ix2 p q) = (∑ j : Fin 32, term m c p q j) * (sx m c e * sw m c e) := by
  unfold outAt k0_pay18
  refine (Idealize.ShloMosaic.ValueIdx.mulf_apply _ _ _).trans ?_
  rw [accAll_apply, sxAt_eq, swAt_eq]
  refine congrArg (_ * ·) ?_
  exact congrArg₂ (· * ·) (congrArg (sx m c) (scale_idx _ e)) (congrArg (sw m c) (scale_idx _ e))

/-! ## Against the reference -/

open Cert.ReferenceIdeal.Read (val_main_v4 val_main_v4_apply val_main_v3_apply val_main_v2_apply val_main_v1_apply val_main_v0_apply)

/-- Where the devices hold the blocks of columns of one `x`, and the same weights and scales, device `c`'s result is block `c` of
rows of the reference's. -/
theorem outAt_block (X : (⟨⟨2, ![4096, 4096]⟩, .f32⟩ : BufTy).Contents (Elt Ideal)) (W : (⟨⟨2, ![4096, 2048]⟩, .f32⟩ : BufTy).Contents (Elt Ideal))
    (A B : (⟨⟨1, ![1]⟩, .f32⟩ : BufTy).Contents (Elt Ideal))
    (hX : ∀ c : Dev nD, m ((c : Thread nD τ).loc main_arg0) = Layout.block ⟨2, ![4096, 128]⟩ ⟨2, ![4096, 4096]⟩ 1 32 c X)
    (hW : ∀ c : Dev nD, m ((c : Thread nD τ).loc main_arg1) = W) (hA : ∀ c : Dev nD, m ((c : Thread nD τ).loc main_arg2) = A)
    (hB : ∀ c : Dev nD, m ((c : Thread nD τ).loc main_arg3) = B) (c : Dev nD) :
    outAt m c = Layout.block ⟨2, ![128, 2048]⟩ ⟨2, ![4096, 2048]⟩ 0 32 c (val_main_v4 (F := Ideal) X W A B) := by
  funext i
  obtain ⟨p, q, rfl⟩ : ∃ (p : Fin 128) (q : Fin 2048), i = ix2 p q := ⟨i 0, i 1, eq_ix2 i⟩
  rw [Layout.block_apply]
  generalize hi : Layout.Tiles.idx _ c (ix2 p q) = i
  have h0 : (i 0).val = c.val * 128 + p.val := by rw [← hi, Layout.Tiles.idx_val]; rfl
  have h1 : (i 1).val = q.val := by rw [← hi, Layout.Tiles.idx_val]; rfl
  rw [val_main_v4_apply, val_main_v3_apply, val_main_v2_apply, val_main_v1_apply, val_main_v0_apply, Fin.sum_univ_tiles 32 128 rfl,
    outAt_apply m c p q (Cert.ReferenceIdeal.Read.idx_main_v2 (Cert.ReferenceIdeal.Read.idx_main_v3 i))]
  refine congrArg₂ (· * ·) (Finset.sum_congr rfl fun j _ => Finset.sum_congr rfl fun k _ => congrArg₂ (· * ·) ?_ ?_)
    (congrArg₂ (· * ·) (congrFun (hA c) _) (congrFun (hB c) _))
  · unfold xs
    rw [hX, Layout.block_apply]
    refine congrArg X (funext fun a => Fin.ext ?_)
    rw [Layout.Tiles.idx_val]
    match a with
    | ⟨0, _⟩ => exact h0.symm
    | ⟨1, _⟩ => rfl
  · unfold ws
    rw [hW]
    refine congrArg W (funext fun a => Fin.ext ?_)
    match a with
    | ⟨0, _⟩ => rfl
    | ⟨1, _⟩ => exact h1.symm

end Cert.KernelIdeal.Run

end
-- ==== Proof.BitsRun.lean ====
/-
# The kernel on bits

The kernel read on bits and the kernel read on the extended reals are one program text over two instances. This module turns a
run of the second text, taken at bits, into a run of the first.
-/
module

public import proofs.«01_k».proof.Defs
public import proofs.«01_k».proof.Proof.Gen.Kernel
public import proofs.«01_k».proof.Proof.IdealLaunch

@[expose] public section

set_option maxRecDepth 100000

noncomputable section

namespace Cert.Kernel.Run

open Idealize.ShloMosaic Idealize.SL.Sem

/-- The two texts' kernel bodies are the same at bits. -/
theorem defs₀_eq :
    (Cert.Kernel.defs₀ (F := Bits) : Defs Cert.KernelIdeal.nD Cert.KernelIdeal.τ Cert.KernelIdeal.sig (Elt Bits) Cert.KernelIdeal.Λ₀)
      = Cert.KernelIdeal.defs₀ (F := Bits) := by
  unfold Cert.Kernel.defs₀ Cert.KernelIdeal.defs₀
  refine congrArg _ (funext fun l => funext fun a => ?_)
  match l, a with
  | ⟨0, _⟩, (t, s) =>
    exact (rfl : Cert.Kernel.cc0_body (F := Bits) _ _ _ _ _ _ _ _ _ _ _ _ _ _ _ _ _ _ _
      = Cert.KernelIdeal.cc0_body (F := Bits) _ _ _ _ _ _ _ _ _ _ _ _ _ _ _ _ _ _ _)

/-- So what every run of the one text at bits satisfies, every run of the other does. -/
theorem of_ideal (m : (ℓ : Loc Cert.Kernel.nD Cert.Kernel.τ Cert.Kernel.sig) → Buf (Elt Bits) ℓ) (g : Dev Cert.Kernel.nD → PrngReg)
    (Q : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) ⟨m, fun _ => 0, g⟩ Q) :
    θ_run (Cert.Kernel.defs (F := Bits)) (onTc (τ := Cert.Kernel.τ) (Cert.Kernel.main (F := Bits))) ⟨m, fun _ => 0, g⟩ Q := by
  have h' : θ_run (Pipeline.defs (Cert.KernelIdeal.pcfgs (F := Bits)) (Cert.Kernel.defs₀ (F := Bits)))
      (onTc (τ := Cert.KernelIdeal.τ) (Cert.KernelIdeal.main (F := Bits))) ⟨m, fun _ => 0, g⟩ Q := by
    rw [congrArg (Pipeline.defs (Cert.KernelIdeal.pcfgs (F := Bits))) defs₀_eq]; exact h
  exact h'

end Cert.Kernel.Run

end
-- ==== Proof.lean ====
/-
# The proof of the certificate

The kernel and its idealization run to quiescence with their arguments unchanged, from one run generic in the float instance; the
reference's run is the generated one; and on the extended reals device `c`'s result is block `c` of rows of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.IdealLaunch
public import proofs.«01_k».proof.Proof.IdealValue
public import proofs.«01_k».proof.Proof.BitsRun
public import Idealize.ShloMosaic.Adequacy
public import Idealize.ShloMosaic.Init

@[expose] public section

noncomputable section

namespace Cert.Proof

open Idealize.ShloMosaic Idealize.SL.Sem

/-- The reference's machine has no semaphore. -/
theorem reference_sem (s : Idealize.ShloMosaic.SemLoc Cert.ReferenceIdeal.sig) : False := by
  match s with
  | .reg i => exact Fin.elim0 i
  | .dma i => exact Fin.elim0 i

/-- The kernel on bits ends quiescent, its arguments unchanged. -/
theorem kernel_frame : Cert.quiescent_Kernel := fun m g _ =>
  Cert.Kernel.Run.of_ideal m g _
    ((θ_run _ _ _).mono (fun _ h => ⟨h.1.args m g, h.2⟩) (Cert.KernelIdeal.Run.run_main (F := Bits) m g))

/-- So does its idealization. -/
theorem ideal_frame : Cert.quiescent_KernelIdeal := fun m g _ =>
  (θ_run _ _ _).mono (fun _ h => ⟨h.1.args m g, h.2⟩) (Cert.KernelIdeal.Run.run_main (F := Ideal) m g)

/-- And the reference. -/
theorem reference_frame : Cert.quiescent_ReferenceIdeal := fun m g _ =>
  (θ_run _ _ _).mono (fun _ h => ⟨fun c => (h c).2, funext fun i => (reference_sem i.2).elim⟩)
    (Cert.ReferenceIdeal.Value.run (F := Ideal) m g)

/-- On the extended reals each device's result is its block of rows of the reference's. -/
theorem value : Cert.algebraic_KernelIdeal_ReferenceIdeal := fun m g m' g' _ hm =>
  ⟨_, (θ_run _ _ _).mono
      (fun _ h c => ⟨((h.1 c).1 3).trans ((Cert.KernelIdeal.Run.finalA_out m g c).trans
        (Cert.KernelIdeal.Run.outAt_block m _ _ _ _ (fun c => (hm c).1) (fun c => (hm c).2.1) (fun c => (hm c).2.2.1) (fun c => (hm c).2.2.2) c)),
        h.1.args m g c⟩)
      (Cert.KernelIdeal.Run.run_main (F := Ideal) m g),
    (θ_run _ _ _).mono (fun _ h => h 0) (Cert.ReferenceIdeal.Value.run (F := Ideal) m' g')⟩

/-- The certificate's claims. -/
theorem claim : Cert.Claim :=
  ⟨Cert.Kernel.Gen.facts, Cert.KernelIdeal.Gen.facts, Cert.ReferenceIdeal.Gen.facts,
    kernel_frame, ideal_frame, reference_frame, trivial, value⟩

end Cert.Proof

end
